-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x512x384 : Shape := ⟨3, ![8, 512, 384]⟩
abbrev S8x512x3 : Shape := ⟨3, ![8, 512, 3]⟩
abbrev S384x384 : Shape := ⟨2, ![384, 384]⟩
abbrev S384 : Shape := ⟨1, ![384]⟩
abbrev S3x384 : Shape := ⟨2, ![3, 384]⟩
abbrev S_ : Shape := ⟨0, ![]⟩

class Facts : Prop where
  bcast_S_S8x512x384 : S_.BroadcastsInDim S8x512x384 (![] : Fin 0 → Fin S8x512x384.rank)
  reducesTo_S8x512x384_S_d0_1_2 : S8x512x384.ReducesTo [0, 1, 2] S_
  h_S_ : 0 < S_.numel
  bcast_S_S8x512x3 : S_.BroadcastsInDim S8x512x3 (![] : Fin 0 → Fin S8x512x3.rank)
  reducesTo_S8x512x3_S_d0_1_2 : S8x512x3.ReducesTo [0, 1, 2] S_
  bcast_S_S384x384 : S_.BroadcastsInDim S384x384 (![] : Fin 0 → Fin S384x384.rank)
  reducesTo_S384x384_S_d0_1 : S384x384.ReducesTo [0, 1] S_

variable [Facts]

def fn {F : FTy → Type} [FloatOps F] (main_arg0 : FVec F S8x512x384 .f32) (main_arg1 : FVec F S8x512x3 .f32) (main_arg2 : FVec F S384x384 .f32) (main_arg3 : FVec F S384x384 .f32) (main_arg4 : FVec F S384x384 .f32) (main_arg5 : FVec F S384x384 .f32) (main_arg6 : FVec F S384x384 .f32) (main_arg7 : FVec F S384 .f32) (main_arg8 : FVec F S384 .f32) (main_arg9 : FVec F S384 .f32) (main_arg10 : FVec F S3x384 .f32) (main_arg11 : FVec F S384x384 .f32) (main_arg12 : FVec F S384 .f32) : IVec S_ 1 :=
  let main_v0 : FVec F S8x512x384 .f32 := Host.absf main_arg0
  let main_cst : FVec F S_ .f32 := constant S_ .f32 0x7F800000#32
  let main_v1 : FVec F S8x512x384 .f32 := broadcastInDim S8x512x384 ![] bcast_S_S8x512x384 main_cst
  let main_v2 : IVec S8x512x384 1 := cmpf .olt main_v0 main_v1
  let main_c : IVec S_ 1 := constantI S_ 1 1#1
  let main_v3 : IVec S_ 1 := (fun x v => Host.reduce IntOp.andi x v reducesTo_S8x512x384_S_d0_1_2 h_S_) main_v2 main_c
  let main_v4 : FVec F S8x512x3 .f32 := Host.absf main_arg1
  let main_cst_0 : FVec F S_ .f32 := constant S_ .f32 0x7F800000#32
  let main_v5 : FVec F S8x512x3 .f32 := broadcastInDim S8x512x3 ![] bcast_S_S8x512x3 main_cst_0
  let main_v6 : IVec S8x512x3 1 := cmpf .olt main_v4 main_v5
  let main_c_1 : IVec S_ 1 := constantI S_ 1 1#1
  let main_v7 : IVec S_ 1 := (fun x v => Host.reduce IntOp.andi x v reducesTo_S8x512x3_S_d0_1_2 h_S_) main_v6 main_c_1
  let main_v8 : IVec S_ 1 := andi main_v3 main_v7
  let main_v9 : FVec F S384x384 .f32 := Host.absf main_arg5
  let main_cst_2 : FVec F S_ .f32 := constant S_ .f32 0x7F800000#32
  let main_v10 : FVec F S384x384 .f32 := broadcastInDim S384x384 ![] bcast_S_S384x384 main_cst_2
  let main_v11 : IVec S384x384 1 := cmpf .olt main_v9 main_v10
  let main_c_3 : IVec S_ 1 := constantI S_ 1 1#1
  let main_v12 : IVec S_ 1 := (fun x v => Host.reduce IntOp.andi x v reducesTo_S384x384_S_d0_1 h_S_) main_v11 main_c_3
  let main_v13 : IVec S_ 1 := andi main_v8 main_v12
  main_v13
-- ==== Kernel.lean ====
abbrev S8x512x384 : Shape := ⟨3, ![8, 512, 384]⟩
abbrev S8x512x3 : Shape := ⟨3, ![8, 512, 3]⟩
abbrev S384x384 : Shape := ⟨2, ![384, 384]⟩
abbrev S384 : Shape := ⟨1, ![384]⟩
abbrev S3x384 : Shape := ⟨2, ![3, 384]⟩
abbrev S8x3x512 : Shape := ⟨3, ![8, 3, 512]⟩
abbrev S8x512x10 : Shape := ⟨3, ![8, 512, 10]⟩
abbrev S4096x384 : Shape := ⟨2, ![4096, 384]⟩
abbrev S8x512x2x192 : Shape := ⟨4, ![8, 512, 2, 192]⟩
abbrev S8x2x512x192 : Shape := ⟨4, ![8, 2, 512, 192]⟩
abbrev S1x384 : Shape := ⟨2, ![1, 384]⟩
abbrev S384x3 : Shape := ⟨2, ![384, 3]⟩
abbrev S8x2x5120x192 : Shape := ⟨4, ![8, 2, 5120, 192]⟩
abbrev S1x512x3 : Shape := ⟨3, ![1, 512, 3]⟩
abbrev S1x3x512 : Shape := ⟨3, ![1, 3, 512]⟩
abbrev S1x512x10 : Shape := ⟨3, ![1, 512, 10]⟩
abbrev S512x3 : Shape := ⟨2, ![512, 3]⟩
abbrev S3x512 : Shape := ⟨2, ![3, 512]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S512x10 : Shape := ⟨2, ![512, 10]⟩
abbrev S1024x384 : Shape := ⟨2, ![1024, 384]⟩
abbrev S1x128x10 : Shape := ⟨3, ![1, 128, 10]⟩
abbrev S1x1x128x192 : Shape := ⟨4, ![1, 1, 128, 192]⟩
abbrev S1x1x512x192 : Shape := ⟨4, ![1, 1, 512, 192]⟩
abbrev S1x1x1280x192 : Shape := ⟨4, ![1, 1, 1280, 192]⟩
abbrev S128x10 : Shape := ⟨2, ![128, 10]⟩
abbrev S128x512 : Shape := ⟨2, ![128, 512]⟩
abbrev S128x1 : Shape := ⟨2, ![128, 1]⟩
abbrev S1x128x512 : Shape := ⟨3, ![1, 128, 512]⟩
abbrev S10x128x512 : Shape := ⟨3, ![10, 128, 512]⟩
abbrev S1280x512 : Shape := ⟨2, ![1280, 512]⟩
abbrev S512x192 : Shape := ⟨2, ![512, 192]⟩
abbrev S1280x192 : Shape := ⟨2, ![1280, 192]⟩
abbrev S1280x3 : Shape := ⟨2, ![1280, 3]⟩
abbrev S128x192 : Shape := ⟨2, ![128, 192]⟩
abbrev S1x128x192 : Shape := ⟨3, ![1, 128, 192]⟩
abbrev S10x128x192 : Shape := ⟨3, ![10, 128, 192]⟩
abbrev S1280x384 : Shape := ⟨2, ![1280, 384]⟩
abbrev S1280 : Shape := ⟨1, ![1280]⟩
abbrev S1280x1 : Shape := ⟨2, ![1280, 1]⟩
abbrev S1x2x1280x192 : Shape := ⟨4, ![1, 2, 1280, 192]⟩
abbrev S1x512x384 : Shape := ⟨3, ![1, 512, 384]⟩
abbrev S1x128x384 : Shape := ⟨3, ![1, 128, 384]⟩
abbrev S2x1280x192 : Shape := ⟨3, ![2, 1280, 192]⟩
abbrev S1x1280x192 : Shape := ⟨3, ![1, 1280, 192]⟩
abbrev S512x384 : Shape := ⟨2, ![512, 384]⟩
abbrev S10x128x384 : Shape := ⟨3, ![10, 128, 384]⟩
abbrev S10x128x64 : Shape := ⟨3, ![10, 128, 64]⟩
abbrev S1x128x64 : Shape := ⟨3, ![1, 128, 64]⟩
abbrev S128x64 : Shape := ⟨2, ![128, 64]⟩
abbrev S10x128 : Shape := ⟨2, ![10, 128]⟩
abbrev S10x1x128 : Shape := ⟨3, ![10, 1, 128]⟩
abbrev S10x10x128 : Shape := ⟨3, ![10, 10, 128]⟩
abbrev S10x128x1 : Shape := ⟨3, ![10, 128, 1]⟩
abbrev S128x384 : Shape := ⟨2, ![128, 384]⟩

abbrev nBuf : Space → Nat
  | .hbm => 39
  | .vmem => 45
  | .smem => 0
  | _ => 0

abbrev bufTy : (tb : Table) → Fin (tcTables nBuf tb) → BufTy
  | .hbm, ⟨0, _⟩ => ⟨S8x512x384, .f32⟩
  | .hbm, ⟨1, _⟩ => ⟨S8x512x3, .f32⟩
  | .hbm, ⟨2, _⟩ => ⟨S384x384, .f32⟩
  | .hbm, ⟨3, _⟩ => ⟨S384x384, .f32⟩
  | .hbm, ⟨4, _⟩ => ⟨S384x384, .f32⟩
  | .hbm, ⟨5, _⟩ => ⟨S384x384, .f32⟩
  | .hbm, ⟨6, _⟩ => ⟨S384x384, .f32⟩
  | .hbm, ⟨7, _⟩ => ⟨S384, .f32⟩
  | .hbm, ⟨8, _⟩ => ⟨S384, .f32⟩
  | .hbm, ⟨9, _⟩ => ⟨S384, .f32⟩
  | .hbm, ⟨10, _⟩ => ⟨S3x384, .f32⟩
  | .hbm, ⟨11, _⟩ => ⟨S384x384, .f32⟩
  | .hbm, ⟨12, _⟩ => ⟨S384, .f32⟩
  | .hbm, ⟨13, _⟩ => ⟨S8x3x512, .f32⟩
  | .hbm, ⟨14, _⟩ => ⟨S8x512x10, .i32⟩
  | .hbm, ⟨15, _⟩ => ⟨S4096x384, .f32⟩
  | .hbm, ⟨16, _⟩ => ⟨S384x384, .f32⟩
  | .hbm, ⟨17, _⟩ => ⟨S384x384, .f32⟩
  | .hbm, ⟨18, _⟩ => ⟨S4096x384, .f32⟩
  | .hbm, ⟨19, _⟩ => ⟨S4096x384, .f32⟩
  | .hbm, ⟨20, _⟩ => ⟨S8x512x384, .f32⟩
  | .hbm, ⟨21, _⟩ => ⟨S8x512x384, .f32⟩
  | .hbm, ⟨22, _⟩ => ⟨S8x512x2x192, .f32⟩
  | .hbm, ⟨23, _⟩ => ⟨S8x2x512x192, .f32⟩
  | .hbm, ⟨24, _⟩ => ⟨S8x512x2x192, .f32⟩
  | .hbm, ⟨25, _⟩ => ⟨S8x2x512x192, .f32⟩
  | .hbm, ⟨26, _⟩ => ⟨S8x512x2x192, .f32⟩
  | .hbm, ⟨27, _⟩ => ⟨S8x2x512x192, .f32⟩
  | .hbm, ⟨28, _⟩ => ⟨S384x384, .f32⟩
  | .hbm, ⟨29, _⟩ => ⟨S1x384, .f32⟩
  | .hbm, ⟨30, _⟩ => ⟨S1x384, .f32⟩
  | .hbm, ⟨31, _⟩ => ⟨S1x384, .f32⟩
  | .hbm, ⟨32, _⟩ => ⟨S384x3, .f32⟩
  | .hbm, ⟨33, _⟩ => ⟨S8x2x5120x192, .f32⟩
  | .hbm, ⟨34, _⟩ => ⟨S384x384, .f32⟩
  | .hbm, ⟨35, _⟩ => ⟨S384x384, .f32⟩
  | .hbm, ⟨36, _⟩ => ⟨S384x384, .f32⟩
  | .hbm, ⟨37, _⟩ => ⟨S1x384, .f32⟩
  | .hbm, ⟨38, _⟩ => ⟨S8x512x384, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S1x512x10, .i32⟩
  | .local _ .vmem, ⟨5, _⟩ => ⟨S1x512x10, .i32⟩
  | .local _ .vmem, ⟨6, _⟩ => ⟨S1024x384, .f32⟩
  | .local _ .vmem, ⟨7, _⟩ => ⟨S1024x384, .f32⟩
  | .local _ .vmem, ⟨8, _⟩ => ⟨S384x384, .f32⟩
  | .local _ .vmem, ⟨9, _⟩ => ⟨S384x384, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | .local _ .vmem, ⟨13, _⟩ => ⟨S1024x384, .f32⟩
  | .local _ .vmem, ⟨14, _⟩ => ⟨S1x128x10, .i32⟩
  | .local _ .vmem, ⟨15, _⟩ => ⟨S1x128x10, .i32⟩
  | .local _ .vmem, ⟨16, _⟩ => ⟨S1x1x128x192, .f32⟩
  | .local _ .vmem, ⟨17, _⟩ => ⟨S1x1x128x192, .f32⟩
  | .local _ .vmem, ⟨18, _⟩ => ⟨S1x1x512x192, .f32⟩
  | .local _ .vmem, ⟨19, _⟩ => ⟨S1x1x512x192, .f32⟩
  | .local _ .vmem, ⟨20, _⟩ => ⟨S1x512x3, .f32⟩
  | .local _ .vmem, ⟨21, _⟩ => ⟨S1x512x3, .f32⟩
  | .local _ .vmem, ⟨22, _⟩ => ⟨S1x3x512, .f32⟩
  | .local _ .vmem, ⟨23, _⟩ => ⟨S1x3x512, .f32⟩
  | .local _ .vmem, ⟨24, _⟩ => ⟨S1x1x512x192, .f32⟩
  | .local _ .vmem, ⟨25, _⟩ => ⟨S1x1x512x192, .f32⟩
  | .local _ .vmem, ⟨26, _⟩ => ⟨S384x384, .f32⟩
  | .local _ .vmem, ⟨27, _⟩ => ⟨S1x384, .f32⟩
  | .local _ .vmem, ⟨28, _⟩ => ⟨S1x384, .f32⟩
  | .local _ .vmem, ⟨29, _⟩ => ⟨S1x384, .f32⟩
  | .local _ .vmem, ⟨30, _⟩ => ⟨S384x3, .f32⟩
  | .local _ .vmem, ⟨31, _⟩ => ⟨S1x1x1280x192, .f32⟩
  | .local _ .vmem, ⟨32, _⟩ => ⟨S1x1x1280x192, .f32⟩
  | .local _ .vmem, ⟨33, _⟩ => ⟨S1x2x1280x192, .f32⟩
  | .local _ .vmem, ⟨34, _⟩ => ⟨S1x2x1280x192, .f32⟩
  | .local _ .vmem, ⟨35, _⟩ => ⟨S1x128x10, .i32⟩
  | .local _ .vmem, ⟨36, _⟩ => ⟨S1x128x10, .i32⟩
  | .local _ .vmem, ⟨37, _⟩ => ⟨S1x512x384, .f32⟩
  | .local _ .vmem, ⟨38, _⟩ => ⟨S1x512x384, .f32⟩
  | .local _ .vmem, ⟨39, _⟩ => ⟨S384x384, .f32⟩
  | .local _ .vmem, ⟨40, _⟩ => ⟨S384x384, .f32⟩
  | .local _ .vmem, ⟨41, _⟩ => ⟨S384x384, .f32⟩
  | .local _ .vmem, ⟨42, _⟩ => ⟨S1x384, .f32⟩
  | .local _ .vmem, ⟨43, _⟩ => ⟨S1x128x384, .f32⟩
  | .local _ .vmem, ⟨44, _⟩ => ⟨S1x128x384, .f32⟩
  | _, _ => ⟨S8x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5_0 : Ref sig .tc := ⟨.hbm, 18, rfl⟩
abbrev main_call0_v5_1 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_v0 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg11_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg7_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem11_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem7_1 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x10 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![8, 2, 4], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage2_0 : Fin 2 → Memref sig .tc .vmem S1x128x10 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1x128x192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x1x512x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x512x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S1x3x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

abbrev stage2_5 : Fin 2 → Memref sig .tc .vmem S1x1x512x192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 1 → Memref sig .tc .vmem S384x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false]

abbrev stage2_7 : Fin 1 → Memref sig .tc .vmem S1x384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false, false]

abbrev stage2_8 : Fin 1 → Memref sig .tc .vmem S1x384 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false, false]

abbrev stage2_9 : Fin 1 → Memref sig .tc .vmem S1x384 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false, false]

abbrev stage2_10 : Fin 1 → Memref sig .tc .vmem S384x3 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false, false]

abbrev stage2_11 : Fin 2 → Memref sig .tc .vmem S1x1x1280x192 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true, true]

abbrev grid3 : Pipeline.Grid := ⟨2, ![8, 4], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x2x1280x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x128x10 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x512x384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S384x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S384x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S384x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x384 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x128x384 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]
-- ==== ReferenceIdeal.lean ====
abbrev S8x512x384 : Shape := ⟨3, ![8, 512, 384]⟩
abbrev S8x512x3 : Shape := ⟨3, ![8, 512, 3]⟩
abbrev S384x384 : Shape := ⟨2, ![384, 384]⟩
abbrev S384 : Shape := ⟨1, ![384]⟩
abbrev S3x384 : Shape := ⟨2, ![3, 384]⟩
abbrev S8x512x512 : Shape := ⟨3, ![8, 512, 512]⟩
abbrev S_ : Shape := ⟨0, ![]⟩
abbrev S8x512 : Shape := ⟨2, ![8, 512]⟩
abbrev S8x512x1 : Shape := ⟨3, ![8, 512, 1]⟩
abbrev S8x1x512 : Shape := ⟨3, ![8, 1, 512]⟩
abbrev S8x512x10 : Shape := ⟨3, ![8, 512, 10]⟩
abbrev S8 : Shape := ⟨1, ![8]⟩
abbrev S8x1x1 : Shape := ⟨3, ![8, 1, 1]⟩
abbrev S8x512x10x1 : Shape := ⟨4, ![8, 512, 10, 1]⟩
abbrev S8x512x10x2 : Shape := ⟨4, ![8, 512, 10, 2]⟩
abbrev S8x512x10x384 : Shape := ⟨4, ![8, 512, 10, 384]⟩
abbrev S8x512x10x2x192 : Shape := ⟨5, ![8, 512, 10, 2, 192]⟩
abbrev S8x2x512x10x192 : Shape := ⟨5, ![8, 2, 512, 10, 192]⟩
abbrev S16x512x10x192 : Shape := ⟨4, ![16, 512, 10, 192]⟩
abbrev S8x512x2x192 : Shape := ⟨4, ![8, 512, 2, 192]⟩
abbrev S8x2x512x192 : Shape := ⟨4, ![8, 2, 512, 192]⟩
abbrev S16x512x192 : Shape := ⟨3, ![16, 512, 192]⟩
abbrev S16x512x1x192 : Shape := ⟨4, ![16, 512, 1, 192]⟩
abbrev S16x512x10x384 : Shape := ⟨4, ![16, 512, 10, 384]⟩
abbrev S1x1x1x384 : Shape := ⟨4, ![1, 1, 1, 384]⟩
abbrev S16x512x10 : Shape := ⟨3, ![16, 512, 10]⟩
abbrev S16x512x10x1 : Shape := ⟨4, ![16, 512, 10, 1]⟩
abbrev S384x3 : Shape := ⟨2, ![384, 3]⟩
abbrev S16x512x10x3 : Shape := ⟨4, ![16, 512, 10, 3]⟩
abbrev S8x512x10x3 : Shape := ⟨4, ![8, 512, 10, 3]⟩
abbrev S8x1x512x10x3 : Shape := ⟨5, ![8, 1, 512, 10, 3]⟩
abbrev S8x2x512x10x3 : Shape := ⟨5, ![8, 2, 512, 10, 3]⟩
abbrev S16x5120x3 : Shape := ⟨3, ![16, 5120, 3]⟩
abbrev S8x1x512x3 : Shape := ⟨4, ![8, 1, 512, 3]⟩
abbrev S8x2x512x3 : Shape := ⟨4, ![8, 2, 512, 3]⟩
abbrev S16x512x3 : Shape := ⟨3, ![16, 512, 3]⟩
abbrev S16x5120x512 : Shape := ⟨3, ![16, 5120, 512]⟩
abbrev S16x5120 : Shape := ⟨2, ![16, 5120]⟩
abbrev S16x5120x1 : Shape := ⟨3, ![16, 5120, 1]⟩
abbrev S16x512 : Shape := ⟨2, ![16, 512]⟩
abbrev S16x1x512 : Shape := ⟨3, ![16, 1, 512]⟩
abbrev S16 : Shape := ⟨1, ![16]⟩
abbrev S16x1x1 : Shape := ⟨3, ![16, 1, 1]⟩
abbrev S16x5120x3x1 : Shape := ⟨4, ![16, 5120, 3, 1]⟩
abbrev S16x5120x3x2 : Shape := ⟨4, ![16, 5120, 3, 2]⟩
abbrev S16x5120x3x192 : Shape := ⟨4, ![16, 5120, 3, 192]⟩
abbrev S16x5120x192 : Shape := ⟨3, ![16, 5120, 192]⟩
abbrev S8x512x10x6x64 : Shape := ⟨5, ![8, 512, 10, 6, 64]⟩
abbrev S8x6x512x10x64 : Shape := ⟨5, ![8, 6, 512, 10, 64]⟩
abbrev S24576x10x64 : Shape := ⟨3, ![24576, 10, 64]⟩
abbrev S24576x10x10 : Shape := ⟨3, ![24576, 10, 10]⟩
abbrev S24576x10 : Shape := ⟨2, ![24576, 10]⟩
abbrev S24576x10x1 : Shape := ⟨3, ![24576, 10, 1]⟩
abbrev S1x1x384 : Shape := ⟨3, ![1, 1, 384]⟩

abbrev nBuf : Space → Nat
  | .hbm => 278
  | .vmem => 0
  | .smem => 0
  | _ => 0

abbrev hbmTy0_0 (i : Nat) : BufTy := match i % 128 with
  | 0 => ⟨S8x512x384, .f32⟩
  | 1 => ⟨S8x512x3, .f32⟩
  | 2 => ⟨S384x384, .f32⟩
  | 3 => ⟨S384x384, .f32⟩
  | 4 => ⟨S384x384, .f32⟩
  | 5 => ⟨S384x384, .f32⟩
  | 6 => ⟨S384x384, .f32⟩
  | 7 => ⟨S384, .f32⟩
  | 8 => ⟨S384, .f32⟩
  | 9 => ⟨S384, .f32⟩
  | 10 => ⟨S3x384, .f32⟩
  | 11 => ⟨S384x384, .f32⟩
  | 12 => ⟨S384, .f32⟩
  | 13 => ⟨S8x512x512, .f32⟩
  | 14 => ⟨S_, .f32⟩
  | 15 => ⟨S8x512x512, .f32⟩
  | 16 => ⟨S8x512x512, .f32⟩
  | 17 => ⟨S8x512x3, .f32⟩
  | 18 => ⟨S_, .f32⟩
  | 19 => ⟨S8x512, .f32⟩
  | 20 => ⟨S8x512x1, .f32⟩
  | 21 => ⟨S8x512x512, .f32⟩
  | 22 => ⟨S8x512x512, .f32⟩
  | 23 => ⟨S8x512x3, .f32⟩
  | 24 => ⟨S_, .f32⟩
  | 25 => ⟨S8x512, .f32⟩
  | 26 => ⟨S8x1x512, .f32⟩
  | 27 => ⟨S8x512x512, .f32⟩
  | 28 => ⟨S8x512x512, .f32⟩
  | 29 => ⟨S8x512x512, .f32⟩
  | 30 => ⟨S8x512x10, .f32⟩
  | 31 => ⟨S8x512x10, .i32⟩
  | 32 => ⟨S8, .i32⟩
  | 33 => ⟨S8x1x1, .i32⟩
  | 34 => ⟨S384x384, .f32⟩
  | 35 => ⟨S8x512x384, .f32⟩
  | 36 => ⟨S384x384, .f32⟩
  | 37 => ⟨S8x512x384, .f32⟩
  | 38 => ⟨S_, .i32⟩
  | 39 => ⟨S8x1x1, .i32⟩
  | 40 => ⟨S8x1x1, .i1⟩
  | 41 => ⟨S_, .i32⟩
  | 42 => ⟨S8x1x1, .i32⟩
  | 43 => ⟨S8x1x1, .i32⟩
  | 44 => ⟨S8x1x1, .i32⟩
  | 45 => ⟨S_, .i32⟩
  | 46 => ⟨S8x512x10, .i32⟩
  | 47 => ⟨S8x512x10, .i1⟩
  | 48 => ⟨S_, .i32⟩
  | 49 => ⟨S8x512x10, .i32⟩
  | 50 => ⟨S8x512x10, .i32⟩
  | 51 => ⟨S8x512x10, .i32⟩
  | 52 => ⟨S8x512x10, .i32⟩
  | 53 => ⟨S8x512x10x1, .i32⟩
  | 54 => ⟨S8x512x10x1, .i32⟩
  | 55 => ⟨S8x512x10x2, .i32⟩
  | 56 => ⟨S8x512x10x384, .f32⟩
  | 57 => ⟨S8x512x10x2x192, .f32⟩
  | 58 => ⟨S8x2x512x10x192, .f32⟩
  | 59 => ⟨S16x512x10x192, .f32⟩
  | 60 => ⟨S8x512x2x192, .f32⟩
  | 61 => ⟨S8x2x512x192, .f32⟩
  | 62 => ⟨S16x512x192, .f32⟩
  | 63 => ⟨S16x512x1x192, .f32⟩
  | 64 => ⟨S16x512x10x192, .f32⟩
  | 65 => ⟨S16x512x10x384, .f32⟩
  | 66 => ⟨S384x384, .f32⟩
  | 67 => ⟨S16x512x10x384, .f32⟩
  | 68 => ⟨S1x1x1x384, .f32⟩
  | 69 => ⟨S16x512x10x384, .f32⟩
  | 70 => ⟨S16x512x10x384, .f32⟩
  | 71 => ⟨S_, .f32⟩
  | 72 => ⟨S16x512x10, .f32⟩
  | 73 => ⟨S16x512x10x1, .f32⟩
  | 74 => ⟨S_, .f32⟩
  | 75 => ⟨S16x512x10x1, .f32⟩
  | 76 => ⟨S16x512x10x1, .f32⟩
  | 77 => ⟨S_, .i32⟩
  | 78 => ⟨S_, .f32⟩
  | 79 => ⟨S16x512x10, .f32⟩
  | 80 => ⟨S16x512x10x1, .f32⟩
  | 81 => ⟨S_, .f32⟩
  | 82 => ⟨S16x512x10x1, .f32⟩
  | 83 => ⟨S16x512x10x1, .f32⟩
  | 84 => ⟨S16x512x10x384, .f32⟩
  | 85 => ⟨S16x512x10x384, .f32⟩
  | 86 => ⟨S16x512x10x384, .f32⟩
  | 87 => ⟨S_, .f32⟩
  | 88 => ⟨S_, .f32⟩
  | 89 => ⟨S_, .f32⟩
  | 90 => ⟨S_, .f32⟩
  | 91 => ⟨S16x512x10, .f32⟩
  | 92 => ⟨S16x512x10x1, .f32⟩
  | 93 => ⟨S16x512x10x1, .f32⟩
  | 94 => ⟨S16x512x10x1, .f32⟩
  | 95 => ⟨S_, .f32⟩
  | 96 => ⟨S_, .i1⟩
  | 97 => ⟨S_, .f32⟩
  | 98 => ⟨S_, .f32⟩
  | 99 => ⟨S16x512x10x1, .f32⟩
  | 100 => ⟨S16x512x10x1, .f32⟩
  | 101 => ⟨S16x512x10x384, .f32⟩
  | 102 => ⟨S16x512x10x384, .f32⟩
  | 103 => ⟨S_, .f32⟩
  | 104 => ⟨S16x512x10x1, .f32⟩
  | 105 => ⟨S16x512x10x1, .f32⟩
  | 106 => ⟨S16x512x10x1, .f32⟩
  | 107 => ⟨S16x512x10x384, .f32⟩
  | 108 => ⟨S16x512x10x384, .f32⟩
  | 109 => ⟨S1x1x1x384, .f32⟩
  | 110 => ⟨S16x512x10x384, .f32⟩
  | 111 => ⟨S16x512x10x384, .f32⟩
  | 112 => ⟨S1x1x1x384, .f32⟩
  | 113 => ⟨S16x512x10x384, .f32⟩
  | 114 => ⟨S16x512x10x384, .f32⟩
  | 115 => ⟨S_, .f32⟩
  | 116 => ⟨S16x512x10x384, .f32⟩
  | 117 => ⟨S16x512x10x384, .f32⟩
  | 118 => ⟨S16x512x10x384, .f32⟩
  | 119 => ⟨S_, .f32⟩
  | 120 => ⟨S16x512x10x384, .f32⟩
  | 121 => ⟨S16x512x10x384, .f32⟩
  | 122 => ⟨S16x512x10x384, .f32⟩
  | 123 => ⟨S16x512x10x384, .f32⟩
  | 124 => ⟨S384x3, .f32⟩
  | 125 => ⟨S16x512x10x3, .f32⟩
  | 126 => ⟨S16x512x10x3, .f32⟩
  | 127 => ⟨S_, .i32⟩
  | _ => ⟨S8x512x384, .f32⟩

abbrev hbmTy0_1 (i : Nat) : BufTy := match i % 128 with
  | 0 => ⟨S8x1x1, .i32⟩
  | 1 => ⟨S8x1x1, .i1⟩
  | 2 => ⟨S_, .i32⟩
  | 3 => ⟨S8x1x1, .i32⟩
  | 4 => ⟨S8x1x1, .i32⟩
  | 5 => ⟨S8x1x1, .i32⟩
  | 6 => ⟨S_, .i32⟩
  | 7 => ⟨S8x512x10, .i32⟩
  | 8 => ⟨S8x512x10, .i1⟩
  | 9 => ⟨S_, .i32⟩
  | 10 => ⟨S8x512x10, .i32⟩
  | 11 => ⟨S8x512x10, .i32⟩
  | 12 => ⟨S8x512x10, .i32⟩
  | 13 => ⟨S8x512x10, .i32⟩
  | 14 => ⟨S8x512x10x1, .i32⟩
  | 15 => ⟨S8x512x10x1, .i32⟩
  | 16 => ⟨S8x512x10x2, .i32⟩
  | 17 => ⟨S8x512x10x3, .f32⟩
  | 18 => ⟨S8x1x512x10x3, .f32⟩
  | 19 => ⟨S8x2x512x10x3, .f32⟩
  | 20 => ⟨S16x512x10x3, .f32⟩
  | 21 => ⟨S16x512x10x3, .f32⟩
  | 22 => ⟨S16x5120x3, .f32⟩
  | 23 => ⟨S8x1x512x3, .f32⟩
  | 24 => ⟨S8x2x512x3, .f32⟩
  | 25 => ⟨S16x512x3, .f32⟩
  | 26 => ⟨S8x512x2x192, .f32⟩
  | 27 => ⟨S8x2x512x192, .f32⟩
  | 28 => ⟨S16x512x192, .f32⟩
  | 29 => ⟨S16x5120x512, .f32⟩
  | 30 => ⟨S_, .f32⟩
  | 31 => ⟨S16x5120x512, .f32⟩
  | 32 => ⟨S16x5120x512, .f32⟩
  | 33 => ⟨S16x5120x3, .f32⟩
  | 34 => ⟨S_, .f32⟩
  | 35 => ⟨S16x5120, .f32⟩
  | 36 => ⟨S16x5120x1, .f32⟩
  | 37 => ⟨S16x5120x512, .f32⟩
  | 38 => ⟨S16x5120x512, .f32⟩
  | 39 => ⟨S16x512x3, .f32⟩
  | 40 => ⟨S_, .f32⟩
  | 41 => ⟨S16x512, .f32⟩
  | 42 => ⟨S16x1x512, .f32⟩
  | 43 => ⟨S16x5120x512, .f32⟩
  | 44 => ⟨S16x5120x512, .f32⟩
  | 45 => ⟨S16x5120x512, .f32⟩
  | 46 => ⟨S16x5120x3, .f32⟩
  | 47 => ⟨S16x5120x3, .i32⟩
  | 48 => ⟨S16x5120x3, .f32⟩
  | 49 => ⟨S_, .f32⟩
  | 50 => ⟨S16x5120x3, .f32⟩
  | 51 => ⟨S16x5120x3, .f32⟩
  | 52 => ⟨S_, .f32⟩
  | 53 => ⟨S16x5120x3, .f32⟩
  | 54 => ⟨S16x5120x3, .f32⟩
  | 55 => ⟨S_, .f32⟩
  | 56 => ⟨S16x5120, .f32⟩
  | 57 => ⟨S16x5120x1, .f32⟩
  | 58 => ⟨S16x5120x3, .f32⟩
  | 59 => ⟨S16x5120x3, .f32⟩
  | 60 => ⟨S16, .i32⟩
  | 61 => ⟨S16x1x1, .i32⟩
  | 62 => ⟨S_, .i32⟩
  | 63 => ⟨S16x1x1, .i32⟩
  | 64 => ⟨S16x1x1, .i1⟩
  | 65 => ⟨S_, .i32⟩
  | 66 => ⟨S16x1x1, .i32⟩
  | 67 => ⟨S16x1x1, .i32⟩
  | 68 => ⟨S16x1x1, .i32⟩
  | 69 => ⟨S_, .i32⟩
  | 70 => ⟨S16x5120x3, .i32⟩
  | 71 => ⟨S16x5120x3, .i1⟩
  | 72 => ⟨S_, .i32⟩
  | 73 => ⟨S16x5120x3, .i32⟩
  | 74 => ⟨S16x5120x3, .i32⟩
  | 75 => ⟨S16x5120x3, .i32⟩
  | 76 => ⟨S16x5120x3, .i32⟩
  | 77 => ⟨S16x5120x3x1, .i32⟩
  | 78 => ⟨S16x5120x3x1, .i32⟩
  | 79 => ⟨S16x5120x3x2, .i32⟩
  | 80 => ⟨S16x5120x3x192, .f32⟩
  | 81 => ⟨S16x5120x3x1, .f32⟩
  | 82 => ⟨S16x5120x3x192, .f32⟩
  | 83 => ⟨S16x5120x3x192, .f32⟩
  | 84 => ⟨S_, .f32⟩
  | 85 => ⟨S16x5120x192, .f32⟩
  | 86 => ⟨S8x2x512x10x192, .f32⟩
  | 87 => ⟨S8x512x10x2x192, .f32⟩
  | 88 => ⟨S8x512x10x384, .f32⟩
  | 89 => ⟨S_, .i32⟩
  | 90 => ⟨S8x1x1, .i32⟩
  | 91 => ⟨S8x1x1, .i1⟩
  | 92 => ⟨S_, .i32⟩
  | 93 => ⟨S8x1x1, .i32⟩
  | 94 => ⟨S8x1x1, .i32⟩
  | 95 => ⟨S8x1x1, .i32⟩
  | 96 => ⟨S_, .i32⟩
  | 97 => ⟨S8x512x10, .i32⟩
  | 98 => ⟨S8x512x10, .i1⟩
  | 99 => ⟨S_, .i32⟩
  | 100 => ⟨S8x512x10, .i32⟩
  | 101 => ⟨S8x512x10, .i32⟩
  | 102 => ⟨S8x512x10, .i32⟩
  | 103 => ⟨S8x512x10, .i32⟩
  | 104 => ⟨S8x512x10x1, .i32⟩
  | 105 => ⟨S8x512x10x1, .i32⟩
  | 106 => ⟨S8x512x10x2, .i32⟩
  | 107 => ⟨S8x512x10x384, .f32⟩
  | 108 => ⟨S8x512x10x6x64, .f32⟩
  | 109 => ⟨S8x6x512x10x64, .f32⟩
  | 110 => ⟨S24576x10x64, .f32⟩
  | 111 => ⟨S384x384, .f32⟩
  | 112 => ⟨S8x512x10x384, .f32⟩
  | 113 => ⟨S8x512x10x6x64, .f32⟩
  | 114 => ⟨S8x6x512x10x64, .f32⟩
  | 115 => ⟨S24576x10x64, .f32⟩
  | 116 => ⟨S384x384, .f32⟩
  | 117 => ⟨S8x512x10x384, .f32⟩
  | 118 => ⟨S8x512x10x6x64, .f32⟩
  | 119 => ⟨S8x6x512x10x64, .f32⟩
  | 120 => ⟨S24576x10x64, .f32⟩
  | 121 => ⟨S24576x10x10, .f32⟩
  | 122 => ⟨S_, .f32⟩
  | 123 => ⟨S24576x10x10, .f32⟩
  | 124 => ⟨S24576x10x10, .f32⟩
  | 125 => ⟨S_, .f32⟩
  | 126 => ⟨S24576x10, .f32⟩
  | 127 => ⟨S_, .f32⟩
  | _ => ⟨S8x512x384, .f32⟩

abbrev hbmTy0_2 (i : Nat) : BufTy := match i % 128 with
  | 0 => ⟨S24576x10, .f32⟩
  | 1 => ⟨S24576x10, .f32⟩
  | 2 => ⟨S24576x10x1, .f32⟩
  | 3 => ⟨S24576x10x10, .f32⟩
  | 4 => ⟨S24576x10x10, .f32⟩
  | 5 => ⟨S24576x10x10, .f32⟩
  | 6 => ⟨S_, .f32⟩
  | 7 => ⟨S24576x10, .f32⟩
  | 8 => ⟨S24576x10x1, .f32⟩
  | 9 => ⟨S24576x10x10, .f32⟩
  | 10 => ⟨S24576x10x10, .f32⟩
  | 11 => ⟨S24576x10x64, .f32⟩
  | 12 => ⟨S8x6x512x10x64, .f32⟩
  | 13 => ⟨S8x512x10x6x64, .f32⟩
  | 14 => ⟨S8x512x10x384, .f32⟩
  | 15 => ⟨S_, .f32⟩
  | 16 => ⟨S8x512x384, .f32⟩
  | 17 => ⟨S384x384, .f32⟩
  | 18 => ⟨S8x512x384, .f32⟩
  | 19 => ⟨S1x1x384, .f32⟩
  | 20 => ⟨S8x512x384, .f32⟩
  | 21 => ⟨S8x512x384, .f32⟩
  | _ => ⟨S8x512x384, .f32⟩

abbrev hbmTy (i : Nat) : BufTy := match i / 128 with
  | 0 => hbmTy0_0 i
  | 1 => hbmTy0_1 i
  | 2 => hbmTy0_2 i
  | _ => ⟨S8x512x384, .f32⟩

abbrev bufTy : (tb : Table) → Fin (tcTables nBuf tb) → BufTy
  | .hbm, ⟨i, _⟩ => hbmTy i
  | _, _ => ⟨S8x512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_values : Ref sig .tc := ⟨.hbm, 30, rfl⟩
abbrev main_indices : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_3 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_c_7 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_cst_0 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_cst_1 : Ref sig .tc := ⟨.hbm, 88, rfl⟩
abbrev main_call0_v8 : Ref sig .tc := ⟨.hbm, 89, rfl⟩
abbrev main_call0_cst_2 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_v12 : Ref sig .tc := ⟨.hbm, 94, rfl⟩
abbrev main_call0_cst_3 : Ref sig .tc := ⟨.hbm, 95, rfl⟩
abbrev main_call0_v13 : Ref sig .tc := ⟨.hbm, 96, rfl⟩
abbrev main_call0_cst_4 : Ref sig .tc := ⟨.hbm, 97, rfl⟩
abbrev main_call0_call0_v0 : Ref sig .tc := ⟨.hbm, 98, rfl⟩
abbrev main_call0_call0_v1 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_8 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_9 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_10 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_c_11 : Ref sig .tc := ⟨.hbm, 127, rfl⟩
abbrev main_v77 : Ref sig .tc := ⟨.hbm, 128, rfl⟩
abbrev main_v78 : Ref sig .tc := ⟨.hbm, 129, rfl⟩
abbrev main_c_12 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_c_13 : Ref sig .tc := ⟨.hbm, 134, rfl⟩
abbrev main_v82 : Ref sig .tc := ⟨.hbm, 135, rfl⟩
abbrev main_v83 : Ref sig .tc := ⟨.hbm, 136, rfl⟩
abbrev main_c_14 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_15 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_cst_16 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_cst_17 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_values_18 : Ref sig .tc := ⟨.hbm, 174, rfl⟩
abbrev main_indices_19 : Ref sig .tc := ⟨.hbm, 175, rfl⟩
abbrev main_v117 : Ref sig .tc := ⟨.hbm, 176, rfl⟩
abbrev main_cst_20 : Ref sig .tc := ⟨.hbm, 177, rfl⟩
abbrev main_v118 : Ref sig .tc := ⟨.hbm, 178, rfl⟩
abbrev main_v119 : Ref sig .tc := ⟨.hbm, 179, rfl⟩
abbrev main_cst_21 : Ref sig .tc := ⟨.hbm, 180, rfl⟩
abbrev main_v120 : Ref sig .tc := ⟨.hbm, 181, rfl⟩
abbrev main_v121 : Ref sig .tc := ⟨.hbm, 182, rfl⟩
abbrev main_cst_22 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_c_23 : Ref sig .tc := ⟨.hbm, 190, rfl⟩
abbrev main_v128 : Ref sig .tc := ⟨.hbm, 191, rfl⟩
abbrev main_v129 : Ref sig .tc := ⟨.hbm, 192, rfl⟩
abbrev main_c_24 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_c_25 : Ref sig .tc := ⟨.hbm, 197, rfl⟩
abbrev main_v133 : Ref sig .tc := ⟨.hbm, 198, rfl⟩
abbrev main_v134 : Ref sig .tc := ⟨.hbm, 199, rfl⟩
abbrev main_c_26 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_cst_27 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_c_28 : Ref sig .tc := ⟨.hbm, 217, rfl⟩
abbrev main_v150 : Ref sig .tc := ⟨.hbm, 218, rfl⟩
abbrev main_v151 : Ref sig .tc := ⟨.hbm, 219, rfl⟩
abbrev main_c_29 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_c_30 : Ref sig .tc := ⟨.hbm, 224, rfl⟩
abbrev main_v155 : Ref sig .tc := ⟨.hbm, 225, rfl⟩
abbrev main_v156 : Ref sig .tc := ⟨.hbm, 226, rfl⟩
abbrev main_c_31 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_cst_32 : Ref sig .tc := ⟨.hbm, 250, rfl⟩
abbrev main_v179 : Ref sig .tc := ⟨.hbm, 251, rfl⟩
abbrev main_v180 : Ref sig .tc := ⟨.hbm, 252, rfl⟩
abbrev main_cst_33 : Ref sig .tc := ⟨.hbm, 253, rfl⟩
abbrev main_v181 : Ref sig .tc := ⟨.hbm, 254, rfl⟩
abbrev main_cst_34 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_cst_35 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_cst_36 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩

abbrev nD : Nat := 1
abbrev τ : Topo := Topo.v7x

variable {F : FTy → Type} [FloatOps F]
-- ==== Proof.Frames.lean ====
/- The frames of the three programs: each runs, faults nowhere, leaves its arguments as launched and every semaphore
   counter at zero. The kernel's two are the generated ones; the reference declares no semaphore. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent

@[expose] public section

noncomputable section

namespace Cert.Proof

open Idealize.ShloMosaic Idealize.SL.Sem

/-- The kernel at bit patterns runs and leaves its arguments unchanged. -/
theorem frame_kernel : Cert.quiescent_Kernel := fun m ρ _ => Cert.Kernel.Gen.frame m ρ

/-- The idealized kernel runs and leaves its arguments unchanged. -/
theorem frame_kernelIdeal : Cert.quiescent_KernelIdeal := fun m ρ _ => Cert.KernelIdeal.Gen.frame m ρ

/-- The idealized reference runs and leaves its arguments unchanged. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Finite.lean ====
/- The precondition read: where it holds, the entries of the input, of the positions and of the offset projection are
   reals. -/
module

public import proofs.«01_k».proof.Defs
public import Idealize.ShloMosaic.Lib.ReduceAll
public import Idealize.ShloMosaic.Lib.Affine
public import Idealize.ShloMosaic.Lib.Pointwise

@[expose] public section

noncomputable section

namespace Cert.Proof

open Idealize.ShloMosaic

/-- The side conditions of the precondition's operations. -/
theorem pre_facts : Cert.Pre_finite_inputs.Facts where
  bcast_S_S8x512x384 := by decide
  reducesTo_S8x512x384_S_d0_1_2 := by decide
  h_S_ := by decide
  bcast_S_S8x512x3 := by decide
  reducesTo_S8x512x3_S_d0_1_2 := by decide
  bcast_S_S384x384 := by decide
  reducesTo_S384x384_S_d0_1 := by decide

/-- The literal of greatest value. -/
theorem ofBits_top : Ideal.ofBits .f32 0x7F800000#32 = ⊤ := by
  simp [Ideal.ofBits, Ideal.ieee]

/-- A value whose magnitude is less than the greatest is real. -/
theorem real_of_abs (v : EReal)
    (h : FloatOps.cmpf (F := Ideal) (φ := .f32) .olt (FloatOps.hostAbsf (F := Ideal) (φ := .f32) v) (Ideal.ofBits .f32 0x7F800000#32)
      = 1#1) : ∃ r : ℝ, v = r := by
  rw [ofBits_top] at h
  induction v using EReal.rec with
  | coe r => exact ⟨r, rfl⟩
  | bot => simp [FloatOps.cmpf, FloatOps.hostAbsf, Ideal.cmp] at h
  | top => simp [FloatOps.cmpf, FloatOps.hostAbsf, Ideal.cmp] at h

/-- An array whose test passes has real entries. -/
theorem reals_of_all {s : Shape} {axes : List (Fin s.rank)} (x : FVec Ideal s .f32)
    (hb : (⟨0, ![]⟩ : Shape).BroadcastsInDim s (![] : Fin 0 → Fin s.rank)) (init : (⟨0, ![]⟩ : Shape).Idx → BitVec 1)
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant ⟨0, ![]⟩ .f32 0x7F800000#32))) init h hu j
      = 1#1) (i : s.Idx) : ∃ r : ℝ, x i = r :=
  haveI : Subsingleton (⟨0, ![]⟩ : Shape).Idx := ⟨fun a b => funext fun k => k.elim0⟩
  real_of_abs (x i) (Host.reduce_andi_all _ init h hu j e i)

/-- Where the precondition holds, the entries of the first, second and sixth arguments are reals. -/
theorem finite_args [Cert.Pre_finite_inputs.Facts]
    (a0 : FVec Ideal Cert.Pre_finite_inputs.S8x512x384 .f32) (a1 : FVec Ideal Cert.Pre_finite_inputs.S8x512x3 .f32)
    (a2 a3 a4 a5 a6 : FVec Ideal Cert.Pre_finite_inputs.S384x384 .f32) (a7 a8 a9 : FVec Ideal Cert.Pre_finite_inputs.S384 .f32)
    (a10 : FVec Ideal Cert.Pre_finite_inputs.S3x384 .f32) (a11 : FVec Ideal Cert.Pre_finite_inputs.S384x384 .f32)
    (a12 : FVec Ideal Cert.Pre_finite_inputs.S384 .f32)
    (h : Cert.Pre_finite_inputs.fn a0 a1 a2 a3 a4 a5 a6 a7 a8 a9 a10 a11 a12 = fun _ => 1#1) :
    (∀ i, ∃ r : ℝ, a0 i = r) ∧ (∀ i, ∃ r : ℝ, a1 i = r) ∧ ∀ i, ∃ r : ℝ, a5 i = r := by
  have h0 := congrFun h (fun k => k.elim0)
  dsimp only [Cert.Pre_finite_inputs.fn] at h0
  obtain ⟨h01, h5⟩ := IntOp.andi_eq_one.1 h0
  obtain ⟨h0, h1⟩ := IntOp.andi_eq_one.1 h01
  exact ⟨reals_of_all a0 _ _ _ _ _ h0, reals_of_all a1 _ _ _ _ _ h1, reals_of_all a5 _ _ _ _ _ h5⟩

end Cert.Proof

end
-- ==== Proof.KernelRun.lean ====
/- The whole run of the idealized kernel with its result named: the four calls among the host operations, launched as the
   frame is, ending with the result array at the last call's contents. -/
module

public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every run of the kernel ends, with the result array at the last boundary's contents and the arguments as launched. -/
theorem run_kernel : θ_run defs (onTc (τ := τ) (main (F := F))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.Proof

end
-- ==== Proof.FirstMin.lean ====
/- The least of finitely many extended reals at its first position, the same after masking what was taken, and the
   stable sort of which these are the first positions. Names no program. -/
module

public import Idealize.ShloMosaic.PureOps.Ideal
public import Idealize.ShloMosaic.Lib.SortPrefix

@[expose] public section

noncomputable section

namespace Cert.Proof

open Idealize.ShloMosaic

/-- `i` is the first position at which `E` is least. -/
def IsFirstMin {n : ℕ} (E : Fin n → EReal) (i : Fin n) : Prop :=
  (∀ j, E i ≤ E j) ∧ ∀ j, j < i → E i < E j

/-- Some position is the first least one. -/
theorem exists_isFirstMin {n : ℕ} [NeZero n] (E : Fin n → EReal) : ∃ i, IsFirstMin E i := by
  classical
  obtain ⟨a, ha⟩ := Finite.exists_min E
  have hne : (Finset.univ.filter fun i => E i = E a).Nonempty := ⟨a, by simp⟩
  refine ⟨(Finset.univ.filter fun i => E i = E a).min' hne, ?_, ?_⟩
  · intro j
    have := Finset.min'_mem _ hne
    simp only [Finset.mem_filter, Finset.mem_univ, true_and] at this
    rw [this]; exact ha j
  · intro j hj
    have := Finset.min'_mem _ hne
    simp only [Finset.mem_filter, Finset.mem_univ, true_and] at this
    rw [this]
    refine lt_of_le_of_ne (ha j) fun h => ?_
    exact absurd (Finset.min'_le _ j (by simp [h])) (not_le.mpr hj)

/-- Only one position is the first least one. -/
theorem IsFirstMin.unique {n : ℕ} {E : Fin n → EReal} {i j : Fin n} (hi : IsFirstMin E i) (hj : IsFirstMin E j) :
    i = j := by
  rcases lt_trichotomy i j with h | h | h
  · exact absurd (hj.2 i h) (not_lt.mpr (hi.1 j))
  · exact h
  · exact absurd (hi.2 j h) (not_lt.mpr (hj.1 i))

/-- The first position at which `E` is least. -/
def firstMin {n : ℕ} [NeZero n] (E : Fin n → EReal) : Fin n := Classical.choose (exists_isFirstMin E)

/-- The first least place is one. -/
theorem firstMin_spec {n : ℕ} [NeZero n] (E : Fin n → EReal) : IsFirstMin E (firstMin E) :=
  Classical.choose_spec (exists_isFirstMin E)

/-- `E` with its first `k` minima replaced by `⊤`, one after the other. -/
def masked {n : ℕ} [NeZero n] (E : Fin n → EReal) : ℕ → Fin n → EReal
  | 0 => E
  | k + 1 => Function.update (masked E k) (firstMin (masked E k)) ⊤

/-- The position of the `k`-th minimum. -/
def nearest {n : ℕ} [NeZero n] (E : Fin n → EReal) (k : ℕ) : Fin n := firstMin (masked E k)

section
variable {n : ℕ} [NeZero n] (E : Fin n → EReal)

/-- What is masked is `⊤` and the rest is `E`. -/
theorem masked_of_mem {k j : ℕ} (h : j < k) : masked E k (nearest E j) = ⊤ := by
  induction k with
  | zero => exact absurd h (Nat.not_lt_zero _)
  | succ k ih =>
    show Function.update _ _ _ _ = _
    by_cases e : nearest E j = firstMin (masked E k)
    · rw [e, Function.update_self]
    · rw [Function.update_of_ne e]
      rcases Nat.lt_succ_iff_lt_or_eq.mp h with h' | rfl
      · exact ih h'
      · exact absurd rfl e

/-- A place not yet taken keeps its value after `k` rounds. -/
theorem masked_of_not_mem {k : ℕ} {p : Fin n} (h : ∀ j, j < k → nearest E j ≠ p) : masked E k p = E p := by
  induction k with
  | zero => rfl
  | succ k ih =>
    have hk : p ≠ firstMin (masked E k) := fun e => h k (Nat.lt_succ_self k) e.symm
    show Function.update _ _ _ _ = _
    rw [Function.update_of_ne hk]
    exact ih fun j hj => h j (Nat.lt_succ_of_lt hj)

/-- While fewer than `n` are taken, the next minimum is a new position. -/
theorem nearest_ne (hE : ∀ i, E i < ⊤) {j k : ℕ} (hk : k < n) (hj : j < k) : nearest E j ≠ nearest E k := by
  classical
  intro e
  obtain ⟨p, hp⟩ : ∃ p : Fin n, p ∉ (Finset.range k).image (nearest E) := by
    by_contra hall
    push Not at hall
    have h1 : (Finset.univ : Finset (Fin n)) ⊆ (Finset.range k).image (nearest E) := fun p _ => hall p
    have h2 := Finset.card_le_card h1
    have h3 : ((Finset.range k).image (nearest E)).card ≤ k := by
      simpa using (Finset.card_image_le (s := Finset.range k) (f := nearest E))
    rw [Finset.card_univ, Fintype.card_fin] at h2
    omega
  have hp' : masked E k p = E p := masked_of_not_mem E fun j hj e' =>
    hp (Finset.mem_image.mpr ⟨j, Finset.mem_range.mpr hj, e'⟩)
  have hle : masked E k (nearest E k) ≤ masked E k p := (firstMin_spec (masked E k)).1 p
  rw [← e, masked_of_mem E hj, hp'] at hle
  exact absurd (hE p) (not_lt.mpr hle)

/-- The value at the next minimum is `E`'s own. -/
theorem masked_nearest (hE : ∀ i, E i < ⊤) {k : ℕ} (hk : k < n) : masked E k (nearest E k) = E (nearest E k) :=
  masked_of_not_mem E fun _ hj => nearest_ne E hE hk hj

/-- The next minimum is at most any position not taken before it, and first among equals. -/
theorem nearest_le (hE : ∀ i, E i < ⊤) {k : ℕ} (hk : k < n) {p : Fin n} (hp : ∀ j, j < k → nearest E j ≠ p) :
    E (nearest E k) ≤ E p ∧ (p < nearest E k → E (nearest E k) < E p) := by
  have h := firstMin_spec (masked E k)
  have h1 := h.1 p
  have h2 := h.2 p
  rw [show firstMin (masked E k) = nearest E k from rfl] at h1 h2
  rw [masked_nearest E hE hk, masked_of_not_mem E hp] at h1 h2
  exact ⟨h1, h2⟩

/-- Sorting an increasing list of positions stably by a key is sorting it by the key and then the position. -/
theorem stableSort_key_position (l : List (Fin n)) (hl : l.Pairwise (· < ·)) :
    stableSort (fun a b => decide (E a < E b)) l
      = stableSort (fun a b => decide (E a < E b) || (decide (E a = E b) && decide (a < b))) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ _).mem_iff.mp hb)
    simp [not_lt.mpr hab.le]

/-- Along the sorted list the keys ascend, and equal keys keep the order of their places. -/
theorem sortedFrom_key_position :
    sortedFrom (fun a b : Fin n => decide (E a < E b))
      = sortedFrom (fun a b => decide (E a < E b) || (decide (E a = E b) && decide (a < b))) := by
  funext k
  unfold sortedFrom
  have h : sortPositions n (fun a b => decide (E a < E b))
      = sortPositions n (fun a b => decide (E a < E b) || (decide (E a = E b) && decide (a < b))) :=
    stableSort_key_position E (List.finRange n) (List.pairwise_lt_finRange n)
  rw [List.get_of_eq h]
  rfl

/-- The `k`-th position of the stable sort of finite numbers is the `k`-th minimum's. -/
theorem sortedFrom_eq_nearest (hE : ∀ i, E i < ⊤) (k : Fin n) :
    sortedFrom (fun a b : Fin n => decide (E a < E b)) k = nearest E k := by
  rw [sortedFrom_key_position]
  have hB : StrictTotalBefore
      (fun a b : Fin n => decide (E a < E b) || (decide (E a = E b) && decide (a < b))) :=
    StrictTotalBefore.of_key_then_position (fun x y : EReal => decide (x < y)) E (by simp)
      (by intro a b c h1 h2; simp only [decide_eq_true_eq] at *; exact lt_trans h1 h2)
      (by intro a b; simp only [decide_eq_true_eq]; exact lt_trichotomy a b)
  have hinj : Function.Injective fun i : Fin n => nearest E i := by
    intro i j h
    rcases lt_trichotomy i j with hij | hij | hij
    · exact absurd h (nearest_ne E hE j.2 hij)
    · exact hij
    · exact absurd h.symm (nearest_ne E hE i.2 hij)
  have key : ∀ (i : Fin n) (p : Fin n), (∀ j : ℕ, j < i → nearest E j ≠ p) →
      (decide (E p < E (nearest E i)) || (decide (E p = E (nearest E i)) && decide (p < nearest E i))) = false := by
    intro i p hp
    obtain ⟨h1, h2⟩ := nearest_le E hE i.2 hp
    simp only [Bool.or_eq_false_iff, Bool.and_eq_false_iff, decide_eq_false_iff_not]
    refine ⟨not_lt.mpr h1, ?_⟩
    by_cases hlt : p < nearest E i
    · exact Or.inl (ne_of_gt (h2 hlt))
    · exact Or.inr hlt
  have h := hB.sortedFrom_eq_of_prefix (le_refl n) (fun i : Fin n => nearest E i) hinj
    (fun i j hij => key i (nearest E j) fun a ha => nearest_ne E hE j.2 (lt_trans ha hij))
    (fun i p hp => key i p fun a ha => hp ⟨a, lt_trans ha i.2⟩) k
  exact h

end

/-- The comparison of negated keys that a descending top-k makes is the ascending one of the keys. -/
theorem gt_neg_iff (a b : EReal) :
    (FloatOps.cmpfTotal (F := Ideal) (φ := .f32) CmpDirection.gt (-a) (-b) == 1#1) = decide (a < b) := by
  show (BitVec.ofBool (decide (-b < -a)) == 1#1) = _
  by_cases h : a < b
  · simp [EReal.neg_lt_neg_iff.mpr h, h]
  · have h' : ¬ (-b < -a) := fun hc => h (EReal.neg_lt_neg_iff.mp hc)
    simp [h', h]

end Cert.Proof

end
-- ==== Proof.Fold.lean ====
/- The least entry of a row as a fold of minima, and its first position as a fold of word minima over "this position's
   word where the entry is the least, and a large word elsewhere". Names no program. -/
module

public import proofs.«01_k».proof.Proof.FirstMin
public import Idealize.ShloMosaic.Lib.Pointwise

@[expose] public section

noncomputable section

namespace Cert.Proof

open Idealize.ShloMosaic

/-- Positive infinity's bit pattern. -/
theorem ofBits_top : Ideal.ofBits .f32 0x7F800000#32 = ⊤ := by simp [Ideal.ofBits, Ideal.ieee]

/-- Negative infinity's bit pattern. -/
theorem ofBits_bot : Ideal.ofBits .f32 0xFF800000#32 = ⊥ := by simp [Ideal.ofBits, Ideal.ieee]

/-- The fold of minima over a row is the row's entry at its first least position. -/
theorem fold_min_eq {n : ℕ} [NeZero n] (E : Fin n → EReal) :
    Finset.fold min (Ideal.ofBits .f32 0x7F800000#32) E Finset.univ = E (firstMin E) := by
  have h := (firstMin_spec E).1
  apply le_antisymm
  · exact (Finset.fold_min_le _).mpr (Or.inr ⟨_, Finset.mem_univ _, le_refl _⟩)
  · exact (Finset.le_fold_min _).mpr ⟨by rw [ofBits_top]; exact le_top, fun x _ => h x⟩

/-- A fold of signed word minima is a word that is below the start and every entry, when it is one of the entries. -/
theorem fold_minsi_of_least {n : ℕ} (b : BitVec 32) (f : Fin n → BitVec 32) (i : Fin n)
    (hb : (f i).toInt ≤ b.toInt) (hf : ∀ x, (f i).toInt ≤ (f x).toInt) :
    Finset.fold IntOp.minsi b f Finset.univ = f i := by
  have key : ∀ s : Finset (Fin n), (f i).toInt ≤ (Finset.fold IntOp.minsi b f s).toInt
      ∧ ∀ x ∈ s, (Finset.fold IntOp.minsi b f s).toInt ≤ (f x).toInt := by
    intro s
    induction s using Finset.induction_on with
    | empty => exact ⟨hb, by simp⟩
    | insert a s ha ih =>
      rw [Finset.fold_insert ha, show IntOp.minsi (f a) (Finset.fold IntOp.minsi b f s)
        = if (f a).slt (Finset.fold IntOp.minsi b f s) then f a else Finset.fold IntOp.minsi b f s from rfl]
      by_cases hlt : (f a).slt (Finset.fold IntOp.minsi b f s)
      · have h' : (f a).toInt < (Finset.fold IntOp.minsi b f s).toInt := by
          simpa [BitVec.slt] using hlt
        rw [if_pos hlt]
        refine ⟨hf a, fun x hx => ?_⟩
        rcases Finset.mem_insert.mp hx with rfl | hx
        · exact le_refl _
        · exact h'.le.trans (ih.2 x hx)
      · have h' : (Finset.fold IntOp.minsi b f s).toInt ≤ (f a).toInt := by
          simpa [BitVec.slt] using hlt
        rw [if_neg hlt]
        refine ⟨ih.1, fun x hx => ?_⟩
        rcases Finset.mem_insert.mp hx with rfl | hx
        · exact h'
        · exact ih.2 x hx
  have h := key Finset.univ
  exact BitVec.eq_of_toInt_eq (le_antisymm (h.2 i (Finset.mem_univ _)) h.1)

/-- The fold of word minima over the words of the least entries' positions is the first of them. -/
theorem fold_minsi_eq (E : Fin 512 → EReal) :
    Finset.fold IntOp.minsi 2147483647#32
      (fun x : Fin 512 => if E x = E (firstMin E) then BitVec.ofNat 32 x else 512#32) Finset.univ
      = BitVec.ofNat 32 (firstMin E) := by
  have hs := firstMin_spec E
  have hi : ∀ x : Fin 512, (BitVec.ofNat 32 (x : ℕ)).toInt = (x : ℕ) := by
    intro x
    have := x.2
    rw [BitVec.toInt_ofNat']
    simp only [Int.bmod]
    omega
  have h5 : (512#32 : BitVec 32).toInt = 512 := by decide
  have hm : (2147483647#32 : BitVec 32).toInt = 2147483647 := by decide
  have := fold_minsi_of_least 2147483647#32
    (fun x : Fin 512 => if E x = E (firstMin E) then BitVec.ofNat 32 x else 512#32) (firstMin E)
    (by
      rw [if_pos rfl, hi, hm]
      have := (firstMin E).2
      omega)
    (fun x => by
      rw [if_pos rfl, hi]
      by_cases hx : E x = E (firstMin E)
      · rw [if_pos hx, hi]
        have : ¬ x < firstMin E := fun h => absurd hx (hs.2 x h).ne'
        have := not_lt.mp this
        exact_mod_cast this
      · rw [if_neg hx, h5]
        have := (firstMin E).2
        omega)
  rw [this, if_pos rfl]

/-- Two positions below 512 have the same word only when they are the same. -/
theorem word_inj {i j : Fin 512} (h : BitVec.ofNat 32 (i : ℕ) = BitVec.ofNat 32 (j : ℕ)) : i = j := by
  have h1 := congrArg BitVec.toNat h
  have := i.2
  have := j.2
  simp only [BitVec.toNat_ofNat] at h1
  apply Fin.ext
  omega

/-- A select on the equality of two positions' words is a choice on the positions. -/
theorem select_word {α : Type} (i j : Fin 512) (a b : α) :
    Scalar.select (IntOp.cmpi CmpIPredicate.eq (BitVec.ofNat 32 (i : ℕ)) (BitVec.ofNat 32 (j : ℕ))) a b
      = if i = j then a else b := by
  by_cases h : i = j
  · subst h; simp [Scalar.select, IntOp.cmpi]
  · have h' : ¬ BitVec.ofNat 32 (i : ℕ) = BitVec.ofNat 32 (j : ℕ) := fun hc => h (word_inj hc)
    have h'' : (BitVec.ofNat 32 (i : ℕ) == BitVec.ofNat 32 (j : ℕ)) = false := beq_eq_false_iff_ne.mpr h'
    simp only [Scalar.select, IntOp.cmpi, h'', if_neg h]
    simp

end Cert.Proof

end
-- ==== Proof.Region0.lean ====
/- The first kernel call: for each batch, the ten nearest points of every point, by ten rounds of "least distance, its
   first position, mask it". The block's value (`out0_2_apply`) and the result array (`arr0_2`). -/
module

public import proofs.«01_k».proof.Proof.Gen.KernelIdeal.Frame
public import proofs.«01_k».proof.Proof.Fold
public import Idealize.ShloMosaic.Lib.Pointwise
public import Idealize.ShloMosaic.Lib.Pipeline.Value

@[expose] public section

set_option maxRecDepth 16384

noncomputable section

namespace Cert.Proof

open Idealize.ShloMosaic Idealize.ShloMosaic.TcCoe Cert.KernelIdeal Cert.KernelIdeal.Gen

/-- Column numbers. -/
abbrev colIota : IVec S512x512 32 := iota .tc S512x512 32 [1] iota_S512x512_d1_w32

/-- The least entry of every row, along the row. -/
def minRow (D : FVec Ideal S512x512 .f32) : FVec Ideal S512x512 .f32 :=
  broadcastTo S512x512 (shapeCast S512x1
    (multiReduction .minimumf [1] S512 D 0x7F800000#32 reduces_S512x512_S512 (.inl rfl) rfl)
    shapeCasts_S512_S512x1) broadcasts_S512x1_S512x512

/-- The first column at which a row is least. -/
def argminCol (D : FVec Ideal S512x512 .f32) : IVec S512x1 32 :=
  shapeCast S512x1 (multiReductionI .minsi [1] S512
    (select (cmpf .oeq D (minRow D)) colIota (broadcast S512x512 512#32)) 2147483647#32 reduces_S512x512_S512 rfl)
    shapeCasts_S512_S512x1

/-- The rows with that entry replaced by infinity. -/
def maskRow (D : FVec Ideal S512x512 .f32) : FVec Ideal S512x512 .f32 :=
  select (cmpi .eq colIota (broadcastTo S512x512 (argminCol D) broadcasts_S512x1_S512x512))
    (broadcast S512x512 (Scalar.ofBits .f32 0x7F800000#32)) D

/-- Row `n` of a square array of distances. -/
abbrev row (D : FVec Ideal S512x512 .f32) (n : Fin 512) : Fin 512 → EReal := fun m => D (ix2 n m)

/-- An entry of the least value of each row. -/
theorem minRow_apply (D : FVec Ideal S512x512 .f32) (n m : Fin 512) :
    minRow D (ix2 n m) = row D n (firstMin (row D n)) := by
  rw [← fold_min_eq (row D n)]
  pointwise [minRow]

/-- An entry of the first place of the least value of each row. -/
theorem argminCol_apply (D : FVec Ideal S512x512 .f32) (n : Fin 512) :
    argminCol D (ix2 n 0) = BitVec.ofNat 32 (firstMin (row D n)) := by
  rw [← fold_minsi_eq]
  pointwise [argminCol, minRow_apply]

/-- One round, at a row. -/
theorem maskRow_row (D : FVec Ideal S512x512 .f32) (n : Fin 512) :
    row (maskRow D) n = Function.update (row D n) (firstMin (row D n)) ⊤ := by
  funext m
  rw [Function.update_apply, ← ofBits_top, ← select_word]
  pointwise [maskRow, argminCol_apply]

/-- Several rounds, at a row. -/
theorem maskRow_iterate_row (D : FVec Ideal S512x512 .f32) (k : ℕ) (n : Fin 512) :
    row (maskRow^[k] D) n = masked (row D n) k := by
  induction k with
  | zero => rfl
  | succ k ih => rw [Function.iterate_succ_apply', maskRow_row, ih]; rfl

/-- Round `k` finds the `k`-th nearest. -/
theorem round_apply (D : FVec Ideal S512x512 .f32) (k : ℕ) (n : Fin 512) :
    argminCol (maskRow^[k] D) (ix2 n 0) = BitVec.ofNat 32 (nearest (row D n) k) := by
  rw [argminCol_apply, maskRow_iterate_row]; rfl

/-- The column numbers where a row is least, and 512 elsewhere. -/
def leastCols (D : FVec Ideal S512x512 .f32) : IVec S512x512 32 :=
  select (cmpf .oeq D (minRow D)) colIota (broadcast S512x512 512#32)

/-- The first least columns, along the rows. -/
def argminRow (D : FVec Ideal S512x512 .f32) : IVec S512x512 32 :=
  broadcastTo S512x512 (argminCol D) broadcasts_S512x1_S512x512

/-- Ten columns side by side, as the block is shaped. -/
def sideBySide (c0 c1 c2 c3 c4 c5 c6 c7 c8 c9 : IVec S512x1 32) : IVec S1x512x10 32 :=
  shapeCast S1x512x10 (concatenate S512x10 1 [⟨S512x1, c0⟩, ⟨S512x1, c1⟩, ⟨S512x1, c2⟩, ⟨S512x1, c3⟩, ⟨S512x1, c4⟩,
    ⟨S512x1, c5⟩, ⟨S512x1, c6⟩, ⟨S512x1, c7⟩, ⟨S512x1, c8⟩, ⟨S512x1, c9⟩]
    concatenates_S512x1_S512x1_S512x1_S512x1_S512x1_S512x1_S512x1_S512x1_S512x1_S512x1_S512x10_d1) shapeCasts_S512x10_S1x512x10

/-- What the body stores: the ten rounds side by side. -/
def knnPay (D : FVec Ideal S512x512 .f32) : IVec S1x512x10 32 :=
  sideBySide (argminCol (maskRow^[0] D)) (argminCol (maskRow^[1] D)) (argminCol (maskRow^[2] D))
    (argminCol (maskRow^[3] D)) (argminCol (maskRow^[4] D)) (argminCol (maskRow^[5] D)) (argminCol (maskRow^[6] D))
    (argminCol (maskRow^[7] D)) (argminCol (maskRow^[8] D)) (argminCol (maskRow^[9] D))

/-- One more round. -/
theorem maskRow_succ (D : FVec Ideal S512x512 .f32) (k : ℕ) : maskRow (maskRow^[k] D) = maskRow^[k + 1] D :=
  (Function.iterate_succ_apply' maskRow k D).symm

section
variable (D : FVec Ideal S512x512 .f32)

/-! The body's named values, one round after another. -/

/-- The matrix after one round. -/
theorem pay5_eq : k0_pay5 D colIota (argminRow D) = maskRow^[1] D := by
  rw [Function.iterate_one]; unfold k0_pay5; rfl
/-- The indices of the second round. -/
theorem pay6_eq : k0_pay6 D colIota (argminRow D) = argminCol (maskRow^[1] D) := by rw [← pay5_eq]; rfl
/-- The matrix after two rounds. -/
theorem pay7_eq : k0_pay7 D colIota (argminRow D) = maskRow^[2] D := by
  rw [← maskRow_succ, ← pay5_eq]; rfl
/-- The indices of the third round. -/
theorem pay8_eq : k0_pay8 D colIota (argminRow D) = argminCol (maskRow^[2] D) := by rw [← pay7_eq]; rfl
/-- The matrix after three rounds. -/
theorem pay9_eq : k0_pay9 D colIota (argminRow D) = maskRow^[3] D := by
  rw [← maskRow_succ, ← pay7_eq]; rfl
/-- The indices of the fourth round. -/
theorem pay10_eq : k0_pay10 D colIota (argminRow D) = argminCol (maskRow^[3] D) := by rw [← pay9_eq]; rfl
/-- The matrix after four rounds. -/
theorem pay11_eq : k0_pay11 D colIota (argminRow D) = maskRow^[4] D := by
  rw [← maskRow_succ, ← pay9_eq]; rfl
/-- The least columns of the fifth round. -/
theorem pay12_eq : k0_pay12 D colIota (argminRow D) = leastCols (maskRow^[4] D) := by rw [← pay11_eq]; rfl
/-- The indices of a round, of its least columns. -/
theorem pay13_eq : k0_pay13 (leastCols D) = argminCol D := rfl
/-- One round more, of its least columns. -/
theorem pay14_eq : k0_pay14 colIota D (leastCols D) = maskRow D := rfl
/-- The indices one round on. -/
theorem pay15_eq : k0_pay15 colIota D (leastCols D) = argminCol (maskRow D) := by rw [← pay14_eq]; rfl
/-- Two rounds more. -/
theorem pay16_eq : k0_pay16 colIota D (leastCols D) = maskRow^[2] D := by
  rw [← maskRow_succ, Function.iterate_one, ← pay14_eq]; rfl
/-- The indices two rounds on. -/
theorem pay17_eq : k0_pay17 colIota D (leastCols D) = argminCol (maskRow^[2] D) := by rw [← pay16_eq]; rfl
/-- Three rounds more. -/
theorem pay18_eq : k0_pay18 colIota D (leastCols D) = maskRow^[3] D := by
  rw [← maskRow_succ, ← pay16_eq]; rfl
/-- The indices three rounds on. -/
theorem pay19_eq : k0_pay19 colIota D (leastCols D) = argminCol (maskRow^[3] D) := by rw [← pay18_eq]; rfl
/-- Four rounds more. -/
theorem pay20_eq : k0_pay20 colIota D (leastCols D) = maskRow^[4] D := by
  rw [← maskRow_succ, ← pay18_eq]; rfl
/-- The least values four rounds on. -/
theorem pay21_eq : k0_pay21 colIota D (leastCols D) = minRow (maskRow^[4] D) := by rw [← pay20_eq]; rfl

/-- The last two rounds, and the ten side by side. -/
theorem pay1_eq (c0 c1 c2 c3 c4 c5 c6 c7 : IVec S512x1 32) :
    k0_pay1 colIota c0 c1 c2 c3 c4 c5 c6 c7 D (minRow D)
      = sideBySide c0 c1 c2 c3 c4 c5 c6 c7 (argminCol D) (argminCol (maskRow D)) := by
  unfold k0_pay1 sideBySide; rfl

end

/-- The zero offsets of an array of three axes. -/
theorem hz3 : (![0, 0, 0] : Fin 3 → Nat) = fun _ => 0 := funext fun a => by fin_cases a <;> rfl

/-- The block the body leaves: the ten rounds on the array of distances. -/
theorem out0_2_eq (x0 : Vec Ideal S1x512x3 .f32) (x1 : Vec Ideal S1x3x512 .f32) :
    out0_2 x0 x1 = knnPay (k0_pay2 x0 x1) := by
  unfold out0_2
  rw [View.canon_unit_zero hz3]
  unfold k0_pay26 k0_pay25 k0_pay24 k0_pay23
  rw [View.ld_unit_zero hz3, View.ld_unit_zero hz3]
  generalize hD : k0_pay2 x0 x1 = D
  rw [show k0_pay4 x0 x1 = argminRow D by rw [← hD]; rfl, show k0_pay22 x0 x1 = colIota from rfl,
    show k0_pay3 x0 x1 = argminCol D by rw [← hD]; rfl,
    pay6_eq, pay8_eq, pay10_eq, pay12_eq, pay11_eq, pay13_eq, pay15_eq, pay17_eq, pay19_eq, pay20_eq, pay21_eq, pay1_eq,
    ← Function.iterate_add_apply, ← Function.iterate_add_apply, ← Function.iterate_add_apply,
    maskRow_succ, maskRow_succ]
  unfold knnPay
  rfl

/-- What column `k` of the block holds. -/
theorem knnPay_apply (D : FVec Ideal S512x512 .f32) (n : Fin 512) (k : Fin 10) :
    knnPay D (ix3 0 n k) = BitVec.ofNat 32 (nearest (row D n) k) := by
  rw [← round_apply]
  match k with
  | ⟨0, _⟩ => pointwise [knnPay, sideBySide]
  | ⟨1, _⟩ => pointwise [knnPay, sideBySide]
  | ⟨2, _⟩ => pointwise [knnPay, sideBySide]
  | ⟨3, _⟩ => pointwise [knnPay, sideBySide]
  | ⟨4, _⟩ => pointwise [knnPay, sideBySide]
  | ⟨5, _⟩ => pointwise [knnPay, sideBySide]
  | ⟨6, _⟩ => pointwise [knnPay, sideBySide]
  | ⟨7, _⟩ => pointwise [knnPay, sideBySide]
  | ⟨8, _⟩ => pointwise [knnPay, sideBySide]
  | ⟨9, _⟩ => pointwise [knnPay, sideBySide]

variable (V : (c : Dev nD) → (b : Ref sig .tc) → Buf (Elt Ideal) ((c : Thread nD τ).loc b))

/-- Where the first call's blocks of the positions lie. -/
theorem idx0_0 : ∀ t : Fin cfg0.N, win0_0.index t (0 : Fin 3) = t.val ∧ win0_0.index t (1 : Fin 3) = 0
    ∧ win0_0.index t (2 : Fin 3) = 0 := (by decide +kernel : ∀ t : Fin grid0.N, _)
/-- Where the first call's blocks of the transposed positions lie. -/
theorem idx0_1 : ∀ t : Fin cfg0.N, win0_1.index t (0 : Fin 3) = t.val ∧ win0_1.index t (1 : Fin 3) = 0
    ∧ win0_1.index t (2 : Fin 3) = 0 := (by decide +kernel : ∀ t : Fin grid0.N, _)
/-- Where the first call's blocks of the indices of the nearest points lie. -/
theorem idx0_2 : ∀ t : Fin cfg0.N, win0_2.index t (0 : Fin 3) = t.val ∧ win0_2.index t (1 : Fin 3) = 0
    ∧ win0_2.index t (2 : Fin 3) = 0 := (by decide +kernel : ∀ t : Fin grid0.N, _)

/-- Batch `b`'s point of the grid. -/
def pt0 (b : Fin 8) : Fin cfg0.N := ⟨b, by rw [show cfg0.N = 8 from N_0]; exact b.2⟩

/-- The place in the array of an entry of the first call's block of the positions. -/
theorem emb0_0 (b : Fin 8) (n : Fin 512) (k : Fin 3) :
    ((cfg0.win 0).blk (pt0 b)).view.emb (ix3 (0 : Fin 1) n k) = (ix3 b n k : S8x512x3.Idx) := by
  have h := idx0_0 (pt0 b)
  have hv : (pt0 b).val = b.val := rfl
  funext a; apply Fin.ext
  match a with
  | ⟨0, _⟩ => show win0_0.index (pt0 b) (0 : Fin 3) * 1 + 1 * 0 = b.val; omega
  | ⟨1, _⟩ => show win0_0.index (pt0 b) (1 : Fin 3) * 512 + 1 * n.val = n.val; omega
  | ⟨2, _⟩ => show win0_0.index (pt0 b) (2 : Fin 3) * 3 + 1 * k.val = k.val; omega

/-- The place in the array of an entry of the first call's block of the transposed positions. -/
theorem emb0_1 (b : Fin 8) (k : Fin 3) (n : Fin 512) :
    ((cfg0.win 1).blk (pt0 b)).view.emb (ix3 (0 : Fin 1) k n) = (ix3 b k n : S8x3x512.Idx) := by
  have h := idx0_1 (pt0 b)
  have hv : (pt0 b).val = b.val := rfl
  funext a; apply Fin.ext
  match a with
  | ⟨0, _⟩ => show win0_1.index (pt0 b) (0 : Fin 3) * 1 + 1 * 0 = b.val; omega
  | ⟨1, _⟩ => show win0_1.index (pt0 b) (1 : Fin 3) * 3 + 1 * k.val = k.val; omega
  | ⟨2, _⟩ => show win0_1.index (pt0 b) (2 : Fin 3) * 512 + 1 * n.val = n.val; omega

/-- The place in the array of an entry of the first call's block of the indices of the nearest points. -/
theorem emb0_2 (b : Fin 8) (n : Fin 512) (k : Fin 10) :
    ((cfg0.win 2).blk (pt0 b)).view.emb (ix3 (0 : Fin 1) n k) = (ix3 b n k : S8x512x10.Idx) := by
  have h := idx0_2 (pt0 b)
  have hv : (pt0 b).val = b.val := rfl
  funext a; apply Fin.ext
  match a with
  | ⟨0, _⟩ => show win0_2.index (pt0 b) (0 : Fin 3) * 1 + 1 * 0 = b.val; omega
  | ⟨1, _⟩ => show win0_2.index (pt0 b) (1 : Fin 3) * 512 + 1 * n.val = n.val; omega
  | ⟨2, _⟩ => show win0_2.index (pt0 b) (2 : Fin 3) * 10 + 1 * k.val = k.val; omega

/-- An entry of the first call's block of the positions. -/
theorem iblk0_0 (c : Dev nD) (b : Fin 8) (n : Fin 512) (k : Fin 3) :
    iblk0 V c 0 (pt0 b) (ix3 (0 : Fin 1) n k) = V c main_arg1 (ix3 b n k : S8x512x3.Idx) := by
  unfold iblk0; rw [View.read_apply, emb0_0]; rfl
/-- An entry of the first call's block of the transposed positions. -/
theorem iblk0_1 (c : Dev nD) (b : Fin 8) (k : Fin 3) (n : Fin 512) :
    iblk0 V c 1 (pt0 b) (ix3 (0 : Fin 1) k n) = V c main_call0_v0 (ix3 b k n : S8x3x512.Idx) := by
  unfold iblk0; rw [View.read_apply, emb0_1]; rfl

/-- The squared distance as the kernel computes it, from the points and their transpose. -/
def dist0 (P : Fin 512 → Fin 3 → EReal) (n m : Fin 512) : EReal :=
  Ideal.ofBits .f32 0xC0000000#32 * (P n 0 * P m 0 + P n 1 * P m 1 + P n 2 * P m 2)
    + (∑ x, P n x * P n x) + ∑ x, P m x * P m x

/-- An entry of the squared distances. -/
theorem k0_pay2_apply (x0 : Vec Ideal S1x512x3 .f32) (x1 : Vec Ideal S1x3x512 .f32) (P : Fin 512 → Fin 3 → EReal)
    (h0 : ∀ n k, x0 (ix3 0 n k) = P n k) (h1 : ∀ k n, x1 (ix3 0 k n) = P n k) (n m : Fin 512) :
    k0_pay2 x0 x1 (ix2 n m) = dist0 P n m := by
  unfold dist0
  pointwise [k0_pay2, h0, h1]

/-- The array the first call leaves: the ten nearest points' words. -/
theorem arr0_2 (c : Dev nD) (P : Fin 8 → Fin 512 → Fin 3 → EReal)
    (h0 : ∀ b n k, V c main_arg1 (ix3 b n k : S8x512x3.Idx) = P b n k)
    (h1 : ∀ b k n, V c main_call0_v0 (ix3 b k n : S8x3x512.Idx) = P b n k) (b : Fin 8) (n : Fin 512) (k : Fin 10) :
    (dat0 V c).arrAt 2 cfg0.N (ix3 b n k : S8x512x10.Idx) = BitVec.ofNat 32 (nearest (dist0 (P b) n) k) := by
  have h := (dat0 V c).arrAt_eq_of_cover 2
    (fun i : S8x512x10.Idx => (BitVec.ofNat 32 (nearest (dist0 (P (i 0)) (i 1)) (i 2 : Fin 10)) : BitVec 32))
    (fun t _ => by
      obtain ⟨b, rfl⟩ : ∃ b, t = pt0 b := ⟨⟨t, t.2.trans_eq N_0⟩, rfl⟩
      show (cfg0.win 2).cut (grid0.coords _) ((dat0 V c).after 2 _) = _
      rw [after0_2, out0_2_eq]
      funext j
      show knnPay _ j = _
      obtain ⟨z, n, k, rfl⟩ : ∃ (z : Fin 1) (n : Fin 512) (k : Fin 10), j = ix3 z n k := ⟨_, _, _, eq_ix3 j⟩
      obtain rfl : z = 0 := Subsingleton.elim _ _
      rw [View.read_apply, emb0_2, knnPay_apply]
      refine congrArg (fun E => (BitVec.ofNat 32 (nearest E k.val).val : BitVec 32)) (funext fun m => ?_)
      exact k0_pay2_apply _ _ (P b) (fun n k => (iblk0_0 V c b n k).trans (h0 b n k))
        (fun k n => (iblk0_1 V c b k n).trans (h1 b k n)) n m)
    (fun i => by
      obtain ⟨b, n, k, rfl⟩ : ∃ (b : Fin 8) (n : Fin 512) (k : Fin 10), i = (ix3 b n k : S8x512x10.Idx) :=
        ⟨_, _, _, eq_ix3 i⟩
      have h := ((cfg0.win 2).blk (pt0 b)).view.emb_mem_set (ix3 (0 : Fin 1) n k)
      rw [emb0_2] at h
      exact ⟨pt0 b, flush0_2 _, h⟩)
  rw [h]
  rfl

end Cert.Proof

end
-- ==== Proof.Hot.lean ====
/- One-hot rows: ten columns of row numbers turned into ten blocks of one-hot rows, whose products pick out rows. -/
module

public import proofs.«01_k».proof.Proof.Region0

@[expose] public section

set_option maxRecDepth 16384

noncomputable section

namespace Cert.Proof

open Idealize.ShloMosaic Idealize.ShloMosaic.TcCoe Cert.KernelIdeal Cert.KernelIdeal.Gen

/-- One at `i`, zero elsewhere. -/
def hot (i m : Fin 512) : EReal := if i = m then 1 else 0

/-- The comparison of two row numbers, as a number. -/
theorem hot_word (i m : Fin 512) : (FloatOps.sitofp (F := Ideal) .f32
    (BitVec.setWidth 32 (IntOp.cmpi .eq (BitVec.ofNat 32 i) (BitVec.ofNat 32 m))) : EReal) = hot i m := by
  by_cases h : i = m
  · subst h
    show (((BitVec.setWidth 32 (BitVec.ofBool (BitVec.ofNat 32 i.val == BitVec.ofNat 32 i.val))).toInt : ℝ) : EReal) = _
    simp [hot]
  · have h' : (BitVec.ofNat 32 i.val == BitVec.ofNat 32 m.val) = false := by
      rw [beq_eq_false_iff_ne]; exact fun e => h (word_inj e)
    show (((BitVec.setWidth 32 (BitVec.ofBool (BitVec.ofNat 32 i.val == BitVec.ofNat 32 m.val))).toInt : ℝ) : EReal) = _
    rw [h']
    simp [hot, h]

/-- The comparison of two indices, as a number, is the one-hot entry. -/
theorem hot_word' (i m : Fin 512) : (FloatOps.sitofp (F := Ideal) .f32
    (BitVec.setWidth 32 (IntOp.cmpi .eq (BitVec.ofNat 32 m) (BitVec.ofNat 32 i))) : EReal) = hot i m := by
  rw [hot_word]; simp [hot, eq_comm]

/-- A one-hot row times a column is the entry it points at. -/
theorem hot_sum (i : Fin 512) (f : Fin 512 → EReal) : ∑ m, hot i m * f m = f i := by
  simp [hot, ite_mul]

/-- Column `o 1` of the row numbers, as one-hot rows. -/
def hotCol (o : Fin 2 → Nat) (h : S128x10.Slices o S128x1) (I : IVec S128x10 32) : FVec Ideal S1x128x512 .f32 :=
  shapeCast S1x128x512 (sitofp .f32 (extui 32 (cmpi .eq (broadcastTo S128x512 (extractStridedSlice S128x1 o I h)
    broadcasts_S128x1_S128x512) (iota .tc S128x512 32 [1] iota_S128x512_d1_w32)) natLt_1_32)) shapeCasts_S128x512_S1x128x512

/-- The ten blocks of one-hot rows, one for each column. -/
def hotBlocks (I : IVec S128x10 32) : FVec Ideal S10x128x512 .f32 :=
  concatenate S10x128x512 0 [⟨S1x128x512, hotCol ![0, 0] slices_S128x10_o0_0_S128x1 I⟩,
    ⟨S1x128x512, hotCol ![0, 1] slices_S128x10_o0_1_S128x1 I⟩, ⟨S1x128x512, hotCol ![0, 2] slices_S128x10_o0_2_S128x1 I⟩,
    ⟨S1x128x512, hotCol ![0, 3] slices_S128x10_o0_3_S128x1 I⟩, ⟨S1x128x512, hotCol ![0, 4] slices_S128x10_o0_4_S128x1 I⟩,
    ⟨S1x128x512, hotCol ![0, 5] slices_S128x10_o0_5_S128x1 I⟩, ⟨S1x128x512, hotCol ![0, 6] slices_S128x10_o0_6_S128x1 I⟩,
    ⟨S1x128x512, hotCol ![0, 7] slices_S128x10_o0_7_S128x1 I⟩, ⟨S1x128x512, hotCol ![0, 8] slices_S128x10_o0_8_S128x1 I⟩,
    ⟨S1x128x512, hotCol ![0, 9] slices_S128x10_o0_9_S128x1 I⟩]
    concatenates_S1x128x512_S1x128x512_S1x128x512_S1x128x512_S1x128x512_S1x128x512_S1x128x512_S1x128x512_S1x128x512_S1x128x512_S10x128x512_d0

/-- The blocks on top of each other. -/
def hotStack (I : IVec S128x10 32) : FVec Ideal S1280x512 .f32 :=
  shapeCast S1280x512 (hotBlocks I) shapeCasts_S10x128x512_S1280x512

/-- Row of neighbour `k` of point `j` in a block of 128 points. -/
def nrow (k : Fin 10) (j : Fin 128) : Fin 1280 := ⟨k * 128 + j, by omega⟩

/-- The neighbour of a row of the stack. -/
theorem nrow_div (k : Fin 10) (j : Fin 128) : (k.val * 128 + j.val) / 128 = k.val := by omega
/-- The point of a row of the stack. -/
theorem nrow_mod (k : Fin 10) (j : Fin 128) : (k.val * 128 + j.val) % 128 = j.val := by omega

/-- The one-hot rows, neighbour by neighbour. -/
theorem hotBlocks_apply (I : IVec S128x10 32) (J : Fin 128 → Fin 10 → Fin 512)
    (hI : ∀ j k, I (ix2 j k) = BitVec.ofNat 32 (J j k)) (k : Fin 10) (j : Fin 128) (m : Fin 512) :
    hotBlocks I (ix3 k j m) = hot (J j k) m := by
  rw [← hot_word, ← hI]
  match k with
  | ⟨0, _⟩ => pointwise [hotBlocks, hotCol]
  | ⟨1, _⟩ => pointwise [hotBlocks, hotCol]
  | ⟨2, _⟩ => pointwise [hotBlocks, hotCol]
  | ⟨3, _⟩ => pointwise [hotBlocks, hotCol]
  | ⟨4, _⟩ => pointwise [hotBlocks, hotCol]
  | ⟨5, _⟩ => pointwise [hotBlocks, hotCol]
  | ⟨6, _⟩ => pointwise [hotBlocks, hotCol]
  | ⟨7, _⟩ => pointwise [hotBlocks, hotCol]
  | ⟨8, _⟩ => pointwise [hotBlocks, hotCol]
  | ⟨9, _⟩ => pointwise [hotBlocks, hotCol]

/-- The one-hot rows as one stack. -/
theorem hotStack_apply (I : IVec S128x10 32) (J : Fin 128 → Fin 10 → Fin 512)
    (hI : ∀ j k, I (ix2 j k) = BitVec.ofNat 32 (J j k)) (k : Fin 10) (j : Fin 128) (m : Fin 512) :
    hotStack I (ix2 (nrow k j) m) = hot (J j k) m := by
  rw [← hotBlocks_apply I J hI]
  unfold nrow
  pointwise [hotStack, nrow_div, nrow_mod]

/-- A stack of ten blocks read as blocks. -/
theorem blocks_apply (X : FVec Ideal S1280x384 .f32) (k : Fin 10) (j : Fin 128) (d : Fin 384) :
    shapeCast S10x128x384 X shapeCasts_S1280x384_S10x128x384 (ix3 k j d) = X (ix2 (nrow k j) d) := by
  unfold nrow
  pointwise []

/-- Rows picked out by one-hot rows. -/
theorem pick_apply (I : IVec S128x10 32) (J : Fin 128 → Fin 10 → Fin 512) (hI : ∀ j k, I (ix2 j k) = BitVec.ofNat 32 (J j k))
    (X : FVec Ideal S512x384 .f32) (k : Fin 10) (j : Fin 128) (d : Fin 384) :
    shapeCast S10x128x384 (matmul (φ₁ := .f32) (φ₂ := .f32) dot_S1280x512_S512x384_S1280x384_1_0_0_1_n_n none (hotStack I) X
      (constant S1280x384 .f32 0x00000000#32)) shapeCasts_S1280x384_S10x128x384 (ix3 k j d) = X (ix2 (J j k) d) := by
  rw [blocks_apply, ← hot_sum (J j k) fun m => X (ix2 m d)]
  simp only [← hotStack_apply I J hI]
  pointwise []

end Cert.Proof

end
-- ==== Proof.Offsets.lean ====
/- The third kernel call up to its distances: the gathered rows, the offset network, the sample points, and the squared
   distances from them to the points. -/
module

public import proofs.«01_k».proof.Proof.Hot

@[expose] public section

set_option maxRecDepth 100000

noncomputable section

namespace Cert.Proof

open Idealize.ShloMosaic Idealize.ShloMosaic.TcCoe Cert.KernelIdeal Cert.KernelIdeal.Gen

/-- The mean of 384 numbers. -/
def mean (h : Fin 384 → EReal) : EReal := Ideal.div (∑ e, h e) (Ideal.ofBits .f32 0x43C00000#32)

/-- A row less its mean. -/
def centred (h : Fin 384 → EReal) (d : Fin 384) : EReal := h d - mean h

/-- Layer normalisation of a row, with scale and shift. -/
def norm (h g b : Fin 384 → EReal) (d : Fin 384) : EReal :=
  Ideal.div (centred h d) (Ideal.sqrt (mean (fun e => centred h e * centred h e) + Ideal.ofBits .f32 0x3727C5AC#32)) * g d + b d

/-- The activation of the offset network. -/
def gelu (h : EReal) : EReal :=
  Ideal.ofBits .f32 0x3F000000#32 * h
    * (Ideal.ofBits .f32 0x3F800000#32 - Ideal.erf ((Ideal.ofBits .f32 0x00000000#32 - h) * Ideal.ofBits .f32 0x3F3504F3#32))

/-- The offset a row of features gives. -/
def offset (F : Fin 384 → EReal) (w1 : Fin 384 → Fin 384 → EReal) (b1 g b : Fin 384 → EReal) (w2 : Fin 384 → Fin 3 → EReal)
    (x : Fin 3) : EReal :=
  Ideal.tanh (∑ d, gelu (norm (fun d => (∑ e, F e * w1 e d) + b1 d) g b d) * w2 d x)

/-- The squared distance from a sample point to a point, as the calls compute it. -/
def dist2 (S P : Fin 3 → EReal) : EReal :=
  Ideal.ofBits .f32 0xC0000000#32 * (S 0 * P 0 + S 1 * P 1 + S 2 * P 2) + (∑ x, S x * S x) + ∑ x, P x * P x

/-- Features side by side: 192 of the neighbour, 192 of the point. -/
def beside (a b : Fin 192 → EReal) (e : Fin 384) : EReal :=
  if h : e.val < 192 then a ⟨e, h⟩ else b ⟨e - 192, by omega⟩

/-- A sum over two rows side by side is the sum over the one and then the other. -/
theorem beside_sum (a b : Fin 192 → EReal) (w : Fin 384 → EReal) :
    ∑ e, beside a b e * w e = (∑ x : Fin 192, a x * w ⟨x, by omega⟩) + ∑ x : Fin 192, b x * w ⟨192 + x, by omega⟩ := by
  rw [Fin.sum_univ_add (a := 192) (b := 192) fun e => beside a b e * w e]
  refine congr (congrArg _ (Finset.sum_congr rfl fun x _ => ?_)) (Finset.sum_congr rfl fun x _ => ?_)
  · simp [beside, Fin.castAdd, Fin.castLE]
  · simp [beside, Fin.natAdd]

/-- The point of a row of the stack, of the row itself. -/
theorem nrow_val_mod (k : Fin 10) (j : Fin 128) : (nrow k j).val % 128 = j.val := nrow_mod k j

/-- The hidden row, normalised. -/
theorem pay17_apply (v79 : FVec Ideal S1280x192 .f32) (v96 : FVec Ideal S128x192 .f32) (w1 : Vec Ideal S384x384 .f32)
    (b1 g b : Vec Ideal S1x384 .f32) (k : Fin 10) (j : Fin 128) (d : Fin 384) :
    k2_pay17 v79 v96 w1 b1 g b (ix2 (nrow k j) d)
      = norm (fun d => (∑ e, beside (fun e => v79 (ix2 (nrow k j) e)) (fun e => v96 (ix2 j e)) e * w1 (ix2 e d)) + b1 (ix2 0 d))
        (fun d => g (ix2 0 d)) (fun d => b (ix2 0 d)) d := by
  unfold norm centred mean
  simp only [beside_sum _ _ fun e => w1 (ix2 e _)]
  pointwise [k2_pay17, nrow_val_mod]

/-- A finite value less itself, twice over, adds nothing: the three products pick out one entry. -/
theorem three_parts (i : Fin 512) (f : Fin 512 → EReal) (hf : ∀ m, f m - f m = 0) :
    (∑ m, hot i m * f m) + (∑ m, hot i m * (f m - f m)) + ∑ m, hot i m * (f m - f m - (f m - f m)) = f i := by
  simp [hf, hot_sum]

/-- The error function over the extended reals. -/
theorem erf_eq (x : EReal) : FloatOps.erf (F := Ideal) (φ := .f32) x = Ideal.erf x := rfl

/-- The stack that the body builds is the stack of one-hot rows. -/
theorem stack_eq (x0 : Vec Ideal S1x128x10 .i32) :
    k2_pay13 (k2_pay3 x0) (k2_pay4 x0) (k2_pay5 x0) (k2_pay6 x0) (k2_pay7 x0) (k2_pay8 x0) (k2_pay9 x0) (k2_pay10 x0)
      (k2_pay11 x0) (k2_pay12 x0) = hotStack (k2_pay2 x0) := by
  unfold k2_pay13 hotStack
  rfl

/-- An entry of the stack that the body builds. -/
theorem stack_apply (x0 : Vec Ideal S1x128x10 .i32) (J : Fin 128 → Fin 10 → Fin 512)
    (hJ : ∀ j k, x0 (ix3 0 j k) = BitVec.ofNat 32 (J j k)) (k : Fin 10) (j : Fin 128) (m : Fin 512) :
    k2_pay13 (k2_pay3 x0) (k2_pay4 x0) (k2_pay5 x0) (k2_pay6 x0) (k2_pay7 x0) (k2_pay8 x0) (k2_pay9 x0) (k2_pay10 x0)
      (k2_pay11 x0) (k2_pay12 x0) (ix2 (nrow k j) m) = hot (J j k) m := by
  rw [stack_eq]
  refine hotStack_apply _ J (fun j k => ?_) k j m
  rw [← hJ]
  pointwise [k2_pay2]

section
variable (v12 v17 v22 v27 v32 v37 v42 v47 v52 : FVec Ideal S128x512 .f32) (v53 : FVec Ideal S1x128x512 .f32)
  (r : Fin 1280) (i : Fin 512) (h : ∀ m, k2_pay13 v12 v17 v22 v27 v32 v37 v42 v47 v52 v53 (ix2 r m) = hot i m)
include h

/-- The gathered values. -/
theorem pay14_apply (X : Vec Ideal S1x1x512x192 .f32) (hX : ∀ m e, X (ix4 0 0 m e) - X (ix4 0 0 m e) = 0) (e : Fin 192) :
    k2_pay14 v12 v17 v22 v27 v32 v37 v42 v47 v52 v53 X (ix2 r e) = X (ix4 0 0 i e) := by
  rw [← three_parts i (fun m => X (ix4 0 0 m e)) fun m => hX m e]
  simp only [← h]
  pointwise [k2_pay14]

/-- The gathered points. -/
theorem pay15_apply (X : Vec Ideal S1x512x3 .f32) (hX : ∀ m e, X (ix3 0 m e) - X (ix3 0 m e) = 0) (e : Fin 3) :
    k2_pay15 v12 v17 v22 v27 v32 v37 v42 v47 v52 v53 X (ix2 r e) = X (ix3 0 i e) := by
  rw [← three_parts i (fun m => X (ix3 0 m e)) fun m => hX m e]
  simp only [← h]
  pointwise [k2_pay15]

end

/-- The distances from a sample point, given the gathered point and the normalised row. -/
theorem pay22_apply (v94 : FVec Ideal S1280x3 .f32) (h : FVec Ideal S1280x384 .f32) (h2 : FVec Ideal S1280x384 .f32)
    (hh : ∀ r d, h2 (ix2 r d) = Ideal.ofBits .f32 0x3F000000#32 * h (ix2 r d)) (w2 : Vec Ideal S384x3 .f32)
    (pT : Vec Ideal S1x3x512 .f32) (r : Fin 1280) (m : Fin 512) :
    k2_pay22 (k2_pay20 pT) (k2_pay21 v94 h h2 w2 pT) (ix2 r m)
      = dist2 (fun x => v94 (ix2 r x) + Ideal.tanh (∑ d, gelu (h (ix2 r d)) * w2 (ix2 d x))) (fun x => pT (ix3 0 x m)) := by
  unfold dist2 gelu
  simp only [← hh]
  pointwise [k2_pay22, k2_pay20, k2_pay21, k2_pay19, erf_eq]

end Cert.Proof

end
-- ==== Proof.Three.lean ====
/- The third kernel call from its distances on: three rounds of "least distance, its first position, mask it", the
   reciprocal weights, and the weighted rows. -/
module

public import proofs.«01_k».proof.Proof.Hot

@[expose] public section

set_option maxRecDepth 100000

noncomputable section

namespace Cert.Proof

open Idealize.ShloMosaic Idealize.ShloMosaic.TcCoe Cert.KernelIdeal Cert.KernelIdeal.Gen

/-- Column numbers. -/
abbrev iota3 : IVec S1280x512 32 := iota .tc S1280x512 32 [1] iota_S1280x512_d1_w32

/-- The least entry of every row. -/
def min3 (D : FVec Ideal S1280x512 .f32) : FVec Ideal S1280x1 .f32 :=
  shapeCast S1280x1 (multiReduction .minimumf [1] S1280 D 0x7F800000#32 reduces_S1280x512_S1280 (.inl rfl) rfl)
    shapeCasts_S1280_S1280x1

/-- The first column at which a row is least. -/
def argmin3 (D : FVec Ideal S1280x512 .f32) : IVec S1280x1 32 :=
  shapeCast S1280x1 (multiReductionI .minsi [1] S1280
    (select (cmpf .oeq D (broadcastTo S1280x512 (min3 D) broadcasts_S1280x1_S1280x512)) iota3 (broadcast S1280x512 512#32))
    2147483647#32 reduces_S1280x512_S1280 rfl) shapeCasts_S1280_S1280x1

/-- The rows with that entry replaced by infinity. -/
def mask3 (D : FVec Ideal S1280x512 .f32) : FVec Ideal S1280x512 .f32 :=
  select (cmpi .eq iota3 (broadcastTo S1280x512 (argmin3 D) broadcasts_S1280x1_S1280x512))
    (broadcast S1280x512 (Scalar.ofBits .f32 0x7F800000#32)) D

/-- Row `r` of an array of distances. -/
abbrev row3 (D : FVec Ideal S1280x512 .f32) (r : Fin 1280) : Fin 512 → EReal := fun m => D (ix2 r m)

/-- An entry of the least value of each row. -/
theorem min3_apply (D : FVec Ideal S1280x512 .f32) (r : Fin 1280) :
    min3 D (ix2 r 0) = row3 D r (firstMin (row3 D r)) := by
  rw [← fold_min_eq (row3 D r)]
  pointwise [min3]

/-- An entry of the first place of the least value of each row. -/
theorem argmin3_apply (D : FVec Ideal S1280x512 .f32) (r : Fin 1280) :
    argmin3 D (ix2 r 0) = BitVec.ofNat 32 (firstMin (row3 D r)) := by
  rw [← fold_minsi_eq]
  pointwise [argmin3, min3_apply]

/-- One round, at a row. -/
theorem mask3_row (D : FVec Ideal S1280x512 .f32) (r : Fin 1280) :
    row3 (mask3 D) r = Function.update (row3 D r) (firstMin (row3 D r)) ⊤ := by
  funext m
  rw [Function.update_apply, ← ofBits_top, ← select_word]
  pointwise [mask3, argmin3_apply]

/-- Several rounds, at a row. -/
theorem mask3_iterate_row (D : FVec Ideal S1280x512 .f32) (k : ℕ) (r : Fin 1280) :
    row3 (mask3^[k] D) r = masked (row3 D r) k := by
  induction k with
  | zero => rfl
  | succ k ih => rw [Function.iterate_succ_apply', mask3_row, ih]; rfl

/-- One over a distance and a little more. -/
def recip (d : EReal) : EReal :=
  Ideal.div (Ideal.ofBits .f32 0x3F800000#32) (d + Ideal.ofBits .f32 0x322BCC77#32)

/-- The weights' total. -/
def total (a b c : EReal) : EReal := a + b + c

/-- The rows weighted and added up: what the body stores, from three rounds' results. -/
theorem k2_pay1_apply (i0 i1 i2 : IVec S1280x1 32) (d2 r0 r1 : FVec Ideal S1280x1 .f32) (X : Vec Ideal S1x1x512x192 .f32)
    (r : Fin 1280) (c : Fin 192) (j0 j1 j2 : Fin 512) (h0 : i0 (ix2 r 0) = BitVec.ofNat 32 j0)
    (h1 : i1 (ix2 r 0) = BitVec.ofNat 32 j1) (h2 : i2 (ix2 r 0) = BitVec.ofNat 32 j2) :
    k2_pay1 i0 i1 d2 i2 iota3 r0 r1 (Scalar.ofBits .f32 0x322BCC77#32) X (ix4 0 0 r c)
      = ∑ m, Ideal.div (hot j0 m * r0 (ix2 r 0) + hot j1 m * r1 (ix2 r 0) + hot j2 m * recip (d2 (ix2 r 0)))
          (total (r0 (ix2 r 0)) (r1 (ix2 r 0)) (recip (d2 (ix2 r 0)))) * X (ix4 0 0 m c) := by
  unfold recip total
  simp only [← hot_word']
  pointwise [k2_pay1, h0, h1, h2]

/-- A weighted sum of one-hot rows picks out the weighted rows. -/
theorem pick_three (j0 j1 j2 : Fin 512) (h01 : j0 ≠ j1) (h02 : j0 ≠ j2) (h12 : j1 ≠ j2) (a b c : EReal) (s : ℝ) (hs : s ≠ 0)
    (f : Fin 512 → EReal) :
    ∑ m, Ideal.div (hot j0 m * a + hot j1 m * b + hot j2 m * c) (s : EReal) * f m
      = Ideal.div a s * f j0 + Ideal.div b s * f j1 + Ideal.div c s * f j2 := by
  rw [← hot_sum j0 fun m => Ideal.div a s * f m, ← hot_sum j1 fun m => Ideal.div b s * f m,
    ← hot_sum j2 fun m => Ideal.div c s * f m, ← Finset.sum_add_distrib, ← Finset.sum_add_distrib]
  refine Finset.sum_congr rfl fun m _ => ?_
  simp only [Ideal.div_coe hs]
  by_cases h0 : j0 = m
  · subst h0; simp [hot, h01.symm, h02.symm]
  · by_cases h1 : j1 = m
    · subst h1; simp [hot, h01, h12.symm]
    · by_cases h2 : j2 = m
      · subst h2; simp [hot, h02, h12]
      · simp [hot, h0, h1, h2]

/-- The interpolated entry: the three nearest points' values, weighted by their reciprocal distances over the total. -/
def interp (E : Fin 512 → EReal) (f : Fin 512 → EReal) : EReal :=
  ∑ k : Fin 3, Ideal.div (recip (E (nearest E k))) (∑ k : Fin 3, recip (E (nearest E k))) * f (nearest E k)

/-- The weight of a distance that is not negative is a positive real. -/
theorem recip_coe {d : ℝ} (hd : 0 ≤ d) : ∃ r : ℝ, 0 < r ∧ recip d = r := by
  have h1 : Ideal.ofBits .f32 0x3F800000#32 = ((1 : ℝ) : EReal) := by
    simp [Ideal.ofBits, Ideal.ieee, -EReal.coe_mul]; try norm_num
  have h2 : ∃ e : ℝ, 0 < e ∧ Ideal.ofBits .f32 0x322BCC77#32 = (e : EReal) := by
    refine ⟨_, ?_, by simp [Ideal.ofBits, Ideal.ieee, -EReal.coe_mul]; rfl⟩
    norm_num
  obtain ⟨e, he, h2⟩ := h2
  refine ⟨1 / (d + e), by positivity, ?_⟩
  have hne : d + e ≠ 0 := by positivity
  rw [recip, h1, h2, ← EReal.coe_add, Ideal.div_coe hne, ← EReal.coe_mul, one_mul]

/-- Three weighted rounds are the interpolation, where every distance is a real that is not negative. -/
theorem interp_eq (E : Fin 512 → EReal) (hE : ∀ m, ∃ d : ℝ, 0 ≤ d ∧ E m = d) (f : Fin 512 → EReal) :
    ∑ m, Ideal.div (hot (nearest E 0) m * recip (masked E 0 (nearest E 0)) + hot (nearest E 1) m * recip (masked E 1 (nearest E 1))
        + hot (nearest E 2) m * recip (masked E 2 (nearest E 2)))
          (total (recip (masked E 0 (nearest E 0))) (recip (masked E 1 (nearest E 1))) (recip (masked E 2 (nearest E 2)))) * f m
      = interp E f := by
  have hT : ∀ m, E m < ⊤ := fun m => by obtain ⟨d, _, h⟩ := hE m; rw [h]; exact EReal.coe_lt_top d
  rw [masked_nearest E hT (by omega), masked_nearest E hT (by omega), masked_nearest E hT (by omega)]
  obtain ⟨d0, p0, e0⟩ := hE (nearest E 0)
  obtain ⟨d1, p1, e1⟩ := hE (nearest E 1)
  obtain ⟨d2, p2, e2⟩ := hE (nearest E 2)
  obtain ⟨r0, q0, s0⟩ := recip_coe p0
  obtain ⟨r1, q1, s1⟩ := recip_coe p1
  obtain ⟨r2, q2, s2⟩ := recip_coe p2
  have hs : r0 + r1 + r2 ≠ 0 := by positivity
  unfold interp total
  simp only [Fin.sum_univ_three, Fin.val_zero, Fin.val_one, Fin.val_two]
  rw [e0, e1, e2, s0, s1, s2, ← EReal.coe_add, ← EReal.coe_add]
  exact pick_three _ _ _ (nearest_ne E hT (by omega) (by omega)) (nearest_ne E hT (by omega) (by omega))
    (nearest_ne E hT (by omega) (by omega)) _ _ _ _ hs f

/-- What the body stores, from its distances. -/
theorem tail_apply (p : FVec Ideal S1x512 .f32) (v : FVec Ideal S1280x512 .f32) (X : Vec Ideal S1x1x512x192 .f32)
    (r : Fin 1280) (hE : ∀ m, ∃ d : ℝ, 0 ≤ d ∧ k2_pay22 p v (ix2 r m) = d) (c : Fin 192) :
    k2_pay1 (k2_pay24 p v) (k2_pay27 p v) (k2_pay29 p v) (k2_pay30 p v) iota3 (k2_pay31 p v) (k2_pay32 p v)
      (Scalar.ofBits .f32 0x322BCC77#32) X (ix4 0 0 r c)
      = interp (row3 (k2_pay22 p v) r) fun m => X (ix4 0 0 m c) := by
  rw [← interp_eq _ hE]
  have b1 : k2_pay25 p v = mask3^[1] (k2_pay22 p v) := by
    rw [Function.iterate_one]; unfold k2_pay25; rfl
  have b2 : k2_pay28 p v = mask3^[2] (k2_pay22 p v) := by
    rw [Function.iterate_succ_apply', ← b1]; unfold k2_pay28; rfl
  have a0 : k2_pay24 p v = argmin3 (mask3^[0] (k2_pay22 p v)) := by unfold k2_pay24; rfl
  have m1 : k2_pay26 p v = min3 (mask3^[1] (k2_pay22 p v)) := by unfold k2_pay26 min3; rw [b1]
  have a1 : k2_pay27 p v = argmin3 (mask3^[1] (k2_pay22 p v)) := by
    unfold k2_pay27 argmin3
    rw [m1, b1]
  have a2 : k2_pay30 p v = argmin3 (mask3^[2] (k2_pay22 p v)) := by rw [← b2]; unfold k2_pay30; rfl
  have m2 : k2_pay29 p v = min3 (mask3^[2] (k2_pay22 p v)) := by rw [← b2]; unfold k2_pay29; rfl
  have m0 : k2_pay23 p v = min3 (mask3^[0] (k2_pay22 p v)) := by unfold k2_pay23; rfl
  have hm : ∀ k, min3 (mask3^[k] (k2_pay22 p v)) (ix2 r 0)
      = masked (row3 (k2_pay22 p v) r) k (nearest (row3 (k2_pay22 p v) r) k) := fun k => by
    rw [min3_apply, mask3_iterate_row]; rfl
  have ha : ∀ k, argmin3 (mask3^[k] (k2_pay22 p v)) (ix2 r 0) = BitVec.ofNat 32 (nearest (row3 (k2_pay22 p v) r) k) := fun k => by
    rw [argmin3_apply, mask3_iterate_row]; rfl
  have r0 : k2_pay31 p v (ix2 r 0) = recip (masked (row3 (k2_pay22 p v) r) 0 (nearest (row3 (k2_pay22 p v) r) 0)) := by
    rw [← hm 0, ← m0]; unfold recip; pointwise [k2_pay31]
  have r1 : k2_pay32 p v (ix2 r 0) = recip (masked (row3 (k2_pay22 p v) r) 1 (nearest (row3 (k2_pay22 p v) r) 1)) := by
    rw [← hm 1, ← m1]; unfold recip; pointwise [k2_pay32]
  rw [k2_pay1_apply _ _ _ _ _ _ _ r c _ _ _ ((congrFun a0 _).trans (ha 0)) ((congrFun a1 _).trans (ha 1))
    ((congrFun a2 _).trans (ha 2)), r0, r1, m2, hm 2]

end Cert.Proof

end
-- ==== Proof.Heads.lean ====
/- The last kernel call's body as six equal heads: `head` is one head's softmax attention over ten neighbours, and the
   block the body leaves is the six heads on slices of three arrays, side by side, through the last product. -/
module

public import proofs.«01_k».proof.Proof.Gen.KernelIdeal.Frame
public import proofs.«01_k».proof.Proof.Region0

@[expose] public section

set_option maxRecDepth 100000

noncomputable section

namespace Cert.Proof

open Idealize.ShloMosaic Idealize.ShloMosaic.TcCoe Cert.KernelIdeal Cert.KernelIdeal.Gen

/-- Row `o 0` of a stack of ten, repeated ten times. -/
def rowOf (o : Fin 3 → Nat) (h : S10x128x64.Slices o S1x128x64) (X : FVec Ideal S10x128x64 .f32) :
    FVec Ideal S10x128x64 .f32 :=
  broadcastTo S10x128x64 (shapeCast S1x128x64 (shapeCast S128x64 (extractStridedSlice S1x128x64 o X h)
    shapeCasts_S1x128x64_S128x64) shapeCasts_S128x64_S1x128x64) broadcasts_S1x128x64_S10x128x64

/-- The scaled products of all ten queries with one key. -/
def logit (o : Fin 3 → Nat) (h : S10x128x64.Slices o S1x128x64) (Q K : FVec Ideal S10x128x64 .f32) :
    FVec Ideal S10x1x128 .f32 :=
  shapeCast S10x1x128 (mulf (multiReduction .add [2] S10x128 (mulf Q (rowOf o h K)) 0x00000000#32
    reduces_S10x128x64_S10x128 (.inl rfl) rfl) (broadcast S10x128 (Scalar.ofBits .f32 0x3E000000#32)))
    shapeCasts_S10x128_S10x1x128

/-- All the scaled products, keys on the middle axis. -/
def logits (Q K : FVec Ideal S10x128x64 .f32) : FVec Ideal S10x10x128 .f32 :=
  concatenate S10x10x128 1 [⟨S10x1x128, logit ![0, 0, 0] slices_S10x128x64_o0_0_0_S1x128x64 Q K⟩,
    ⟨S10x1x128, logit ![1, 0, 0] slices_S10x128x64_o1_0_0_S1x128x64 Q K⟩,
    ⟨S10x1x128, logit ![2, 0, 0] slices_S10x128x64_o2_0_0_S1x128x64 Q K⟩,
    ⟨S10x1x128, logit ![3, 0, 0] slices_S10x128x64_o3_0_0_S1x128x64 Q K⟩,
    ⟨S10x1x128, logit ![4, 0, 0] slices_S10x128x64_o4_0_0_S1x128x64 Q K⟩,
    ⟨S10x1x128, logit ![5, 0, 0] slices_S10x128x64_o5_0_0_S1x128x64 Q K⟩,
    ⟨S10x1x128, logit ![6, 0, 0] slices_S10x128x64_o6_0_0_S1x128x64 Q K⟩,
    ⟨S10x1x128, logit ![7, 0, 0] slices_S10x128x64_o7_0_0_S1x128x64 Q K⟩,
    ⟨S10x1x128, logit ![8, 0, 0] slices_S10x128x64_o8_0_0_S1x128x64 Q K⟩,
    ⟨S10x1x128, logit ![9, 0, 0] slices_S10x128x64_o9_0_0_S1x128x64 Q K⟩]
    concatenates_S10x1x128_S10x1x128_S10x1x128_S10x1x128_S10x1x128_S10x1x128_S10x1x128_S10x1x128_S10x1x128_S10x1x128_S10x10x128_d1

/-- The exponentials of what is left after the largest along the middle axis is taken away. -/
def expBlock (L : FVec Ideal S10x10x128 .f32) : FVec Ideal S10x10x128 .f32 :=
  exp (subf L (broadcastTo S10x10x128 (shapeCast S10x1x128 (multiReduction .maximumf [1] S10x128 L 0xFF800000#32
    reduces_S10x10x128_S10x128 (.inl rfl) rfl) shapeCasts_S10x128_S10x1x128) broadcasts_S10x1x128_S10x10x128))

/-- The softmax along the middle axis. -/
def softBlock (L : FVec Ideal S10x10x128 .f32) : FVec Ideal S10x10x128 .f32 :=
  divf (expBlock L) (broadcastTo S10x10x128 (shapeCast S10x1x128 (multiReduction .add [1] S10x128 (expBlock L)
    0x00000000#32 reduces_S10x10x128_S10x128 (.inl rfl) rfl) shapeCasts_S10x128_S10x1x128)
    broadcasts_S10x1x128_S10x10x128)

/-- One value row weighted by its column of the softmax. -/
def part (a o : Fin 3 → Nat) (ha : S10x10x128.Slices a S10x1x128) (h : S10x128x64.Slices o S1x128x64)
    (A : FVec Ideal S10x10x128 .f32) (V : FVec Ideal S10x128x64 .f32) : FVec Ideal S10x128x64 .f32 :=
  mulf (broadcastTo S10x128x64 (shapeCast S10x128x1 (shapeCast S10x128 (extractStridedSlice S10x1x128 a A ha)
    shapeCasts_S10x1x128_S10x128) shapeCasts_S10x128_S10x128x1) broadcasts_S10x128x1_S10x128x64) (rowOf o h V)

/-- The ten weighted value rows added up. -/
def mix (A : FVec Ideal S10x10x128 .f32) (V : FVec Ideal S10x128x64 .f32) : FVec Ideal S10x128x64 .f32 :=
  addf (addf (addf (addf (addf (addf (addf (addf (addf
    (part ![0, 0, 0] ![0, 0, 0] slices_S10x10x128_o0_0_0_S10x1x128 slices_S10x128x64_o0_0_0_S1x128x64 A V)
    (part ![0, 1, 0] ![1, 0, 0] slices_S10x10x128_o0_1_0_S10x1x128 slices_S10x128x64_o1_0_0_S1x128x64 A V))
    (part ![0, 2, 0] ![2, 0, 0] slices_S10x10x128_o0_2_0_S10x1x128 slices_S10x128x64_o2_0_0_S1x128x64 A V))
    (part ![0, 3, 0] ![3, 0, 0] slices_S10x10x128_o0_3_0_S10x1x128 slices_S10x128x64_o3_0_0_S1x128x64 A V))
    (part ![0, 4, 0] ![4, 0, 0] slices_S10x10x128_o0_4_0_S10x1x128 slices_S10x128x64_o4_0_0_S1x128x64 A V))
    (part ![0, 5, 0] ![5, 0, 0] slices_S10x10x128_o0_5_0_S10x1x128 slices_S10x128x64_o5_0_0_S1x128x64 A V))
    (part ![0, 6, 0] ![6, 0, 0] slices_S10x10x128_o0_6_0_S10x1x128 slices_S10x128x64_o6_0_0_S1x128x64 A V))
    (part ![0, 7, 0] ![7, 0, 0] slices_S10x10x128_o0_7_0_S10x1x128 slices_S10x128x64_o7_0_0_S1x128x64 A V))
    (part ![0, 8, 0] ![8, 0, 0] slices_S10x10x128_o0_8_0_S10x1x128 slices_S10x128x64_o8_0_0_S1x128x64 A V))
    (part ![0, 9, 0] ![9, 0, 0] slices_S10x10x128_o0_9_0_S10x1x128 slices_S10x128x64_o9_0_0_S1x128x64 A V)

/-- One head: softmax attention of ten queries over ten keys, then the largest over the ten queries. -/
def head (Q K V : FVec Ideal S10x128x64 .f32) : FVec Ideal S128x64 .f32 :=
  multiReduction .maximumf [0] S128x64 (mix (softBlock (logits Q K)) V) 0xFF800000#32 reduces_S10x128x64_S128x64 (.inl rfl) rfl

/-- A head on one slice of the three arrays. -/
def headAt (o : Fin 3 → Nat) (h : S10x128x384.Slices o S10x128x64) (Q K V : FVec Ideal S10x128x384 .f32) :
    FVec Ideal S128x64 .f32 :=
  head (extractStridedSlice S10x128x64 o Q h) (extractStridedSlice S10x128x64 o K h) (extractStridedSlice S10x128x64 o V h)

/-- The six heads side by side. -/
def sixHeads (Q K V : FVec Ideal S10x128x384 .f32) : FVec Ideal S128x384 .f32 :=
  concatenate S128x384 1 [⟨S128x64, headAt ![0, 0, 0] slices_S10x128x384_o0_0_0_S10x128x64 Q K V⟩,
    ⟨S128x64, headAt ![0, 0, 64] slices_S10x128x384_o0_0_64_S10x128x64 Q K V⟩,
    ⟨S128x64, headAt ![0, 0, 128] slices_S10x128x384_o0_0_128_S10x128x64 Q K V⟩,
    ⟨S128x64, headAt ![0, 0, 192] slices_S10x128x384_o0_0_192_S10x128x64 Q K V⟩,
    ⟨S128x64, headAt ![0, 0, 256] slices_S10x128x384_o0_0_256_S10x128x64 Q K V⟩,
    ⟨S128x64, headAt ![0, 0, 320] slices_S10x128x384_o0_0_320_S10x128x64 Q K V⟩]
    concatenates_S128x64_S128x64_S128x64_S128x64_S128x64_S128x64_S128x384_d1

/-- What the body stores, from the three arrays, the last weight and the last bias. -/
def attnPay (Q K V : FVec Ideal S10x128x384 .f32) (w : Vec Ideal S384x384 .f32) (b : Vec Ideal S1x384 .f32) :
    FVec Ideal S1x128x384 .f32 :=
  k3_pay1 (matmul dot_S128x384_S384x384_S128x384_1_0_0_1_n_n none (truncf .bf16 (sixHeads Q K V) bitsLt_bf16_f32)
    (truncf .bf16 (shapeCast S384x384 w shapeCasts_S384x384_S384x384) bitsLt_bf16_f32)
    (constant S128x384 .f32 0x00000000#32)) (k3_pay120 b)

/-- The zero offsets of a matrix. -/
theorem hz2 : (![0, 0] : Fin 2 → Nat) = fun _ => 0 := funext fun a => by fin_cases a <;> rfl

/-- The zero offsets of an array of four axes. -/
theorem hz4 : (![0, 0, 0, 0] : Fin 4 → Nat) = fun _ => 0 := funext fun a => by fin_cases a <;> rfl

set_option maxHeartbeats 4000000 in
/-- The block the body leaves is the six heads through the last product. -/
theorem out3_7_eq (x0 : Vec Ideal S1x2x1280x192 .f32) (x1 : Vec Ideal S1x128x10 .i32) (x2 : Vec Ideal S1x512x384 .f32)
    (x3 x4 x5 : Vec Ideal S384x384 .f32) (x6 : Vec Ideal S1x384 .f32) :
    out3_7 x0 x1 x2 x3 x4 x5 x6 = View.canon [⟨r3_5, attnPay (k3_pay130 x0 x1 x2 x3 x4 x5 x6)
      (k3_pay131 x0 x1 x2 x3 x4 x5 x6) (k3_pay132 x0 x1 x2 x3 x4 x5 x6) (View.ld x5 r3_1) (View.ld x6 r3_4)⟩] := by
  unfold out3_7
  rfl

end Cert.Proof

end
-- ==== Proof.Region2.lean ====
/- The block the third kernel call's body leaves, at an index. -/
module

public import proofs.«01_k».proof.Proof.Offsets
public import proofs.«01_k».proof.Proof.Three
public import proofs.«01_k».proof.Proof.Heads

@[expose] public section

set_option maxRecDepth 100000

noncomputable section

namespace Cert.Proof

open Idealize.ShloMosaic Idealize.ShloMosaic.TcCoe Cert.KernelIdeal Cert.KernelIdeal.Gen

/-- The hyperbolic tangent is a real everywhere. -/
theorem tanh_real (x : EReal) : ∃ t : ℝ, Ideal.tanh x = t := by
  induction x using EReal.rec with
  | bot => exact ⟨_, rfl⟩
  | top => exact ⟨_, rfl⟩
  | coe r => exact ⟨_, rfl⟩

/-- Between reals the distance is the sum of the squared differences. -/
theorem dist2_coe (s p : Fin 3 → ℝ) :
    dist2 (fun x => (s x : EReal)) (fun x => (p x : EReal)) = ((∑ x, (s x - p x) ^ 2 : ℝ) : EReal) := by
  have h2 : Ideal.ofBits .f32 0xC0000000#32 = ((-2 : ℝ) : EReal) := by
    simp [Ideal.ofBits, Ideal.ieee, -EReal.coe_mul]; try norm_num
  unfold dist2
  rw [h2]
  simp only [Fin.sum_univ_three, ← EReal.coe_mul, ← EReal.coe_add]
  congr 1
  ring

/-- A distance from a sample point whose point is real is a real that is not negative. -/
theorem dist2_real (s p : Fin 3 → ℝ) (o : Fin 3 → EReal) :
    ∃ d : ℝ, 0 ≤ d ∧ dist2 (fun x => (s x : EReal) + Ideal.tanh (o x)) (fun x => (p x : EReal)) = d := by
  choose t ht using fun x => tanh_real (o x)
  refine ⟨∑ x, (s x + t x - p x) ^ 2, by positivity, ?_⟩
  rw [← dist2_coe]
  simp only [ht, EReal.coe_add]

/-! A load of a whole block is the block. -/

/-- Reading the whole block gives the block. -/
theorem ld2_0 (x : Vec Ideal S1x128x10 .i32) : View.ld x r2_0 = x := View.ld_unit_zero hz3 _ _
/-- Reading the whole block gives the block. -/
theorem ld2_1 (x : Vec Ideal S1x1x512x192 .f32) : View.ld x r2_1 = x := View.ld_unit_zero hz4 _ _
/-- Reading the whole block gives the block. -/
theorem ld2_2 (x : Vec Ideal S1x512x3 .f32) : View.ld x r2_2 = x := View.ld_unit_zero hz3 _ _
/-- Reading the whole block gives the block. -/
theorem ld2_3 (x : Vec Ideal S1x1x128x192 .f32) : View.ld x r2_3 = x := View.ld_unit_zero hz4 _ _
/-- Reading the whole block gives the block. -/
theorem ld2_4 (x : Vec Ideal S384x384 .f32) : View.ld x r2_4 = x := View.ld_unit_zero hz2 _ _
/-- Reading the whole block gives the block. -/
theorem ld2_5 (x : Vec Ideal S1x384 .f32) : View.ld x r2_5 = x := View.ld_unit_zero hz2 _ _
/-- Reading the whole block gives the block. -/
theorem ld2_6 (x : Vec Ideal S384x3 .f32) : View.ld x r2_6 = x := View.ld_unit_zero hz2 _ _
/-- Reading the whole block gives the block. -/
theorem ld2_7 (x : Vec Ideal S1x3x512 .f32) : View.ld x r2_7 = x := View.ld_unit_zero hz3 _ _

/-- A sample point: a point and its offset. -/
def sample (p : Fin 3 → EReal) (F : Fin 384 → EReal) (w1 : Fin 384 → Fin 384 → EReal) (b1 g b : Fin 384 → EReal)
    (w2 : Fin 384 → Fin 3 → EReal) (x : Fin 3) : EReal := p x + offset F w1 b1 g b w2 x

section
variable (x0 : Vec Ideal S1x128x10 .i32) (x1 : Vec Ideal S1x1x128x192 .f32) (x2 : Vec Ideal S1x1x512x192 .f32)
  (x3 : Vec Ideal S1x512x3 .f32) (x4 : Vec Ideal S1x3x512 .f32) (x5 : Vec Ideal S1x1x512x192 .f32)
  (x6 : Vec Ideal S384x384 .f32) (x7 x8 x9 : Vec Ideal S1x384 .f32) (x10 : Vec Ideal S384x3 .f32)

/-- The distances of the body, from the blocks. -/
def dists : FVec Ideal S1280x512 .f32 :=
  k2_pay22 (k2_pay45 x0 x1 x2 x3 x4 x5 x6 x7 x8 x9 x10) (k2_pay46 x0 x1 x2 x3 x4 x5 x6 x7 x8 x9 x10)

variable (J : Fin 128 → Fin 10 → Fin 512) (hJ : ∀ j k, x0 (ix3 0 j k) = BitVec.ofNat 32 (J j k))
  (hv : ∀ m e, x2 (ix4 0 0 m e) - x2 (ix4 0 0 m e) = 0) (hp : ∀ m e, x3 (ix3 0 m e) - x3 (ix3 0 m e) = 0)
include hJ hv hp

/-- A row of distances. -/
theorem dists_apply (k : Fin 10) (j : Fin 128) (m : Fin 512) :
    dists x0 x1 x2 x3 x4 x5 x6 x7 x8 x9 x10 (ix2 (nrow k j) m)
      = dist2 (sample (fun x => x3 (ix3 0 (J j k) x)) (beside (fun e => x2 (ix4 0 0 (J j k) e)) (fun e => x1 (ix4 0 0 j e)))
          (fun e d => x6 (ix2 e d)) (fun d => x7 (ix2 0 d)) (fun d => x8 (ix2 0 d)) (fun d => x9 (ix2 0 d))
          (fun d x => x10 (ix2 d x))) (fun x => x4 (ix3 0 x m)) := by
  unfold dists k2_pay45 k2_pay46
  rw [pay22_apply]
  · have hs := fun m => stack_apply x0 J hJ k j m
    unfold sample offset
    unfold k2_pay33 k2_pay34 k2_pay35 k2_pay36 k2_pay37 k2_pay38 k2_pay39 k2_pay40 k2_pay41 k2_pay42
    rw [ld2_0, ld2_2, ld2_4, ld2_5, ld2_5, ld2_5, ld2_6, ld2_7]
    refine congrArg (fun S => dist2 S _) (funext fun x => ?_)
    rw [pay15_apply _ _ _ _ _ _ _ _ _ _ _ _ hs x3 hp x]
    refine congrArg (fun o => _ + Ideal.tanh o) (Finset.sum_congr rfl fun d _ => ?_)
    rw [pay17_apply]
    unfold k2_pay43 k2_pay44
    unfold k2_pay33 k2_pay34 k2_pay35 k2_pay36 k2_pay37 k2_pay38 k2_pay39 k2_pay40 k2_pay41 k2_pay42
    rw [ld2_0, ld2_1, ld2_3]
    have hv' : (fun e : Fin 192 => k2_pay14 (k2_pay3 x0) (k2_pay4 x0) (k2_pay5 x0) (k2_pay6 x0) (k2_pay7 x0) (k2_pay8 x0)
        (k2_pay9 x0) (k2_pay10 x0) (k2_pay11 x0) (k2_pay12 x0) x2 (ix2 (nrow k j) e)) = fun e => x2 (ix4 0 0 (J j k) e) :=
      funext fun e => pay14_apply _ _ _ _ _ _ _ _ _ _ _ _ hs x2 hv e
    have hq : (fun e : Fin 192 => k2_pay16 x1 (ix2 j e)) = fun e => x1 (ix4 0 0 j e) :=
      funext fun e => by pointwise [k2_pay16]
    rw [hv', hq]
  · intro r d
    pointwise [k2_pay18]

/-- The block the body leaves: the interpolated rows, where the points are real. -/
theorem out2_11_apply (P : Fin 512 → Fin 3 → ℝ) (hP : ∀ m x, x3 (ix3 0 m x) = P m x) (hP' : ∀ m x, x4 (ix3 0 x m) = P m x)
    (k : Fin 10) (j : Fin 128) (c : Fin 192) :
    out2_11 x0 x1 x2 x3 x4 x5 x6 x7 x8 x9 x10 (ix4 0 0 (nrow k j) c)
      = interp (fun m => dist2 (sample (fun x => P (J j k) x) (beside (fun e => x2 (ix4 0 0 (J j k) e)) (fun e => x1 (ix4 0 0 j e)))
          (fun e d => x6 (ix2 e d)) (fun d => x7 (ix2 0 d)) (fun d => x8 (ix2 0 d)) (fun d => x9 (ix2 0 d))
          (fun d x => x10 (ix2 d x))) (fun x => P m x)) fun m => x5 (ix4 0 0 m c) := by
  have hd : ∀ m, dists x0 x1 x2 x3 x4 x5 x6 x7 x8 x9 x10 (ix2 (nrow k j) m)
      = dist2 (sample (fun x => P (J j k) x) (beside (fun e => x2 (ix4 0 0 (J j k) e)) (fun e => x1 (ix4 0 0 j e)))
          (fun e d => x6 (ix2 e d)) (fun d => x7 (ix2 0 d)) (fun d => x8 (ix2 0 d)) (fun d => x9 (ix2 0 d))
          (fun d x => x10 (ix2 d x))) (fun x => P m x) := fun m => by
    rw [dists_apply x0 x1 x2 x3 x4 x5 x6 x7 x8 x9 x10 J hJ hv hp k j m]
    simp only [hP, hP']
  unfold out2_11
  rw [View.canon_unit_zero hz4, View.ld_unit_zero hz4]
  refine (tail_apply _ _ x5 (nrow k j) (fun m => ?_) c).trans ?_
  · refine (?_ : ∃ d : ℝ, 0 ≤ d ∧ dists x0 x1 x2 x3 x4 x5 x6 x7 x8 x9 x10 (ix2 (nrow k j) m) = d)
    rw [hd]
    exact dist2_real _ _ _
  · exact congrArg (fun E => interp E _) (funext hd)

end

end Cert.Proof

end
-- ==== Proof.Tiles.lean ====
/- A tile's points and rows: tile `t` of the four holds the 128 points `t * 128 + j` and the 1280 rows `t * 1280 + r`. -/
module

public import proofs.«01_k».proof.Proof.Hot

@[expose] public section

namespace Cert.Proof

/-- Point `j` of tile `t`. -/
def tilePt (t : Fin 4) (j : Fin 128) : Fin 512 := ⟨t * 128 + j, by omega⟩

/-- Row `r` of tile `t`. -/
def tileRow (t : Fin 4) (r : Fin 1280) : Fin 5120 := ⟨t * 1280 + r, by omega⟩

/-- Every point lies in one tile. -/
theorem exists_tilePt (n : Fin 512) : ∃ t j, n = tilePt t j :=
  ⟨⟨n / 128, by omega⟩, ⟨n % 128, by omega⟩, Fin.ext (Nat.div_add_mod' _ _).symm⟩

/-- Every row lies in one tile. -/
theorem exists_tileRow (r : Fin 5120) : ∃ t s, r = tileRow t s :=
  ⟨⟨r / 1280, by omega⟩, ⟨r % 1280, by omega⟩, Fin.ext (Nat.div_add_mod' _ _).symm⟩

/-- Every row of a tile belongs to one neighbour of one point. -/
theorem exists_nrow (r : Fin 1280) : ∃ k j, r = nrow k j :=
  ⟨⟨r / 128, by omega⟩, ⟨r % 128, by omega⟩, Fin.ext (Nat.div_add_mod' _ _).symm⟩

end Cert.Proof
-- ==== Proof.Array2.lean ====
/- The third kernel call's result array, from its blocks: group `g` of tile `t` of batch `b` holds the interpolated
   features of that tile's points at their ten sampled positions. -/
module

public import proofs.«01_k».proof.Proof.Region2
public import proofs.«01_k».proof.Proof.Tiles
import Idealize.ShloMosaic.Lib.Pipeline.Value

@[expose] public section

set_option maxRecDepth 16384

noncomputable section

namespace Cert.Proof

open Idealize.ShloMosaic Idealize.ShloMosaic.TcCoe Cert.KernelIdeal Cert.KernelIdeal.Gen

variable (V : (c : Dev nD) → (b : Ref sig .tc) → Buf (Elt Ideal) ((c : Thread nD τ).loc b))

/-- The interpolated feature `c` of group-row `n` at its `k`-th sampled position: the position of the neighbour plus its
    offset, and the three points nearest to it weigh their features. -/
def interpRow (q v f : Fin 512 → Fin 192 → EReal) (P : Fin 512 → Fin 3 → ℝ) (J : Fin 512 → Fin 10 → Fin 512)
    (w1 : Fin 384 → Fin 384 → EReal) (b1 g b : Fin 384 → EReal) (w2 : Fin 384 → Fin 3 → EReal) (n : Fin 512) (k : Fin 10)
    (c : Fin 192) : EReal :=
  interp (fun m => dist2 (sample (fun x => P (J n k) x) (beside (fun e => v (J n k) e) (fun e => q n e)) w1 b1 g b w2)
    (fun x => P m x)) fun m => f m c

/-- Tile `t` of group `g` of batch `b`'s point of the grid. -/
def pt2 (b : Fin 8) (g : Fin 2) (t : Fin 4) : Fin cfg2.N :=
  ⟨(b * 2 + g) * 4 + t, by rw [show cfg2.N = 64 from N_2]; omega⟩

/-- The batch of a point of the grid. -/
theorem pt2_b (b : Fin 8) (g : Fin 2) (t : Fin 4) : (pt2 b g t).val / 8 = b := by
  show ((b.val * 2 + g.val) * 4 + t.val) / 8 = b.val; omega
/-- The half of a point of the grid. -/
theorem pt2_g (b : Fin 8) (g : Fin 2) (t : Fin 4) : (pt2 b g t).val / 4 % 2 = g := by
  show ((b.val * 2 + g.val) * 4 + t.val) / 4 % 2 = g.val; omega
/-- The tile of a point of the grid. -/
theorem pt2_t (b : Fin 8) (g : Fin 2) (t : Fin 4) : (pt2 b g t).val % 4 = t := by
  show ((b.val * 2 + g.val) * 4 + t.val) % 4 = t.val; omega

/-- Where the third call's blocks of the indices of the nearest points lie. -/
theorem idx2_0 : ∀ t : Fin cfg2.N, win2_0.index t (0 : Fin 3) = t.val / 8
    ∧ win2_0.index t (1 : Fin 3) = t.val % 4
    ∧ win2_0.index t (2 : Fin 3) = 0 :=
  (by decide +kernel : ∀ t : Fin grid2.N, _)
/-- Where the third call's blocks of the queries lie. -/
theorem idx2_1 : ∀ t : Fin cfg2.N, win2_1.index t (0 : Fin 4) = t.val / 8
    ∧ win2_1.index t (1 : Fin 4) = t.val / 4 % 2
    ∧ win2_1.index t (2 : Fin 4) = t.val % 4
    ∧ win2_1.index t (3 : Fin 4) = 0 :=
  (by decide +kernel : ∀ t : Fin grid2.N, _)
/-- Where the third call's blocks of the values lie. -/
theorem idx2_2 : ∀ t : Fin cfg2.N, win2_2.index t (0 : Fin 4) = t.val / 8
    ∧ win2_2.index t (1 : Fin 4) = t.val / 4 % 2
    ∧ win2_2.index t (2 : Fin 4) = 0
    ∧ win2_2.index t (3 : Fin 4) = 0 :=
  (by decide +kernel : ∀ t : Fin grid2.N, _)
/-- Where the third call's blocks of the positions lie. -/
theorem idx2_3 : ∀ t : Fin cfg2.N, win2_3.index t (0 : Fin 3) = t.val / 8
    ∧ win2_3.index t (1 : Fin 3) = 0
    ∧ win2_3.index t (2 : Fin 3) = 0 :=
  (by decide +kernel : ∀ t : Fin grid2.N, _)
/-- Where the third call's blocks of the transposed positions lie. -/
theorem idx2_4 : ∀ t : Fin cfg2.N, win2_4.index t (0 : Fin 3) = t.val / 8
    ∧ win2_4.index t (1 : Fin 3) = 0
    ∧ win2_4.index t (2 : Fin 3) = 0 :=
  (by decide +kernel : ∀ t : Fin grid2.N, _)
/-- Where the third call's blocks of the features lie. -/
theorem idx2_5 : ∀ t : Fin cfg2.N, win2_5.index t (0 : Fin 4) = t.val / 8
    ∧ win2_5.index t (1 : Fin 4) = t.val / 4 % 2
    ∧ win2_5.index t (2 : Fin 4) = 0
    ∧ win2_5.index t (3 : Fin 4) = 0 :=
  (by decide +kernel : ∀ t : Fin grid2.N, _)
/-- Where the third call's blocks of the first weight lie. -/
theorem idx2_6 : ∀ t : Fin cfg2.N, win2_6.index t (0 : Fin 2) = 0
    ∧ win2_6.index t (1 : Fin 2) = 0 :=
  (by decide +kernel : ∀ t : Fin grid2.N, _)
/-- Where the third call's blocks of the first bias lie. -/
theorem idx2_7 : ∀ t : Fin cfg2.N, win2_7.index t (0 : Fin 2) = 0
    ∧ win2_7.index t (1 : Fin 2) = 0 :=
  (by decide +kernel : ∀ t : Fin grid2.N, _)
/-- Where the third call's blocks of the scale of the normalisation lie. -/
theorem idx2_8 : ∀ t : Fin cfg2.N, win2_8.index t (0 : Fin 2) = 0
    ∧ win2_8.index t (1 : Fin 2) = 0 :=
  (by decide +kernel : ∀ t : Fin grid2.N, _)
/-- Where the third call's blocks of the shift of the normalisation lie. -/
theorem idx2_9 : ∀ t : Fin cfg2.N, win2_9.index t (0 : Fin 2) = 0
    ∧ win2_9.index t (1 : Fin 2) = 0 :=
  (by decide +kernel : ∀ t : Fin grid2.N, _)
/-- Where the third call's blocks of the second weight lie. -/
theorem idx2_10 : ∀ t : Fin cfg2.N, win2_10.index t (0 : Fin 2) = 0
    ∧ win2_10.index t (1 : Fin 2) = 0 :=
  (by decide +kernel : ∀ t : Fin grid2.N, _)
/-- Where the third call's blocks of the interpolated features lie. -/
theorem idx2_11 : ∀ t : Fin cfg2.N, win2_11.index t (0 : Fin 4) = t.val / 8
    ∧ win2_11.index t (1 : Fin 4) = t.val / 4 % 2
    ∧ win2_11.index t (2 : Fin 4) = t.val % 4
    ∧ win2_11.index t (3 : Fin 4) = 0 :=
  (by decide +kernel : ∀ t : Fin grid2.N, _)

/-- The place in the array of an entry of the third call's block of the indices of the nearest points. -/
theorem emb2_0 (b : Fin 8) (g : Fin 2) (t : Fin 4) (j : Fin 128) (l : Fin 10) :
    ((cfg2.win 0).blk (pt2 b g t)).view.emb (ix3 (0 : Fin 1) j l) = (ix3 b (tilePt t j) l : S8x512x10.Idx) := by
  have h := idx2_0 (pt2 b g t)
  rw [pt2_b, pt2_t] at h
  funext a; apply Fin.ext
  match a with
  | ⟨0, _⟩ => show win2_0.index (pt2 b g t) (0 : Fin 3) * 1 + 1 * 0 = b.val; omega
  | ⟨1, _⟩ => show win2_0.index (pt2 b g t) (1 : Fin 3) * 128 + 1 * j.val = t.val * 128 + j.val; omega
  | ⟨2, _⟩ => show win2_0.index (pt2 b g t) (2 : Fin 3) * 10 + 1 * l.val = l.val; omega
/-- An entry of the third call's block of the indices of the nearest points. -/
theorem iblk2_0 (c : Dev nD) (b : Fin 8) (g : Fin 2) (t : Fin 4) (j : Fin 128) (l : Fin 10) :
    iblk2 V c 0 (pt2 b g t) (ix3 (0 : Fin 1) j l) = V c main_call0_v1 (ix3 b (tilePt t j) l : S8x512x10.Idx) := by
  unfold iblk2; rw [View.read_apply, emb2_0]; rfl
/-- The place in the array of an entry of the third call's block of the queries. -/
theorem emb2_1 (b : Fin 8) (g : Fin 2) (t : Fin 4) (l : Fin 128) (o : Fin 192) :
    ((cfg2.win 1).blk (pt2 b g t)).view.emb (ix4 (0 : Fin 1) (0 : Fin 1) l o) = (ix4 b g (tilePt t l) o : S8x2x512x192.Idx) := by
  have h := idx2_1 (pt2 b g t)
  rw [pt2_b, pt2_g, pt2_t] at h
  funext a; apply Fin.ext
  match a with
  | ⟨0, _⟩ => show win2_1.index (pt2 b g t) (0 : Fin 4) * 1 + 1 * 0 = b.val; omega
  | ⟨1, _⟩ => show win2_1.index (pt2 b g t) (1 : Fin 4) * 1 + 1 * 0 = g.val; omega
  | ⟨2, _⟩ => show win2_1.index (pt2 b g t) (2 : Fin 4) * 128 + 1 * l.val = t.val * 128 + l.val; omega
  | ⟨3, _⟩ => show win2_1.index (pt2 b g t) (3 : Fin 4) * 192 + 1 * o.val = o.val; omega
/-- An entry of the third call's block of the queries. -/
theorem iblk2_1 (c : Dev nD) (b : Fin 8) (g : Fin 2) (t : Fin 4) (l : Fin 128) (o : Fin 192) :
    iblk2 V c 1 (pt2 b g t) (ix4 (0 : Fin 1) (0 : Fin 1) l o) = V c main_call0_v9 (ix4 b g (tilePt t l) o : S8x2x512x192.Idx) := by
  unfold iblk2; rw [View.read_apply, emb2_1]; rfl
/-- The place in the array of an entry of the third call's block of the values. -/
theorem emb2_2 (b : Fin 8) (g : Fin 2) (t : Fin 4) (l : Fin 512) (o : Fin 192) :
    ((cfg2.win 2).blk (pt2 b g t)).view.emb (ix4 (0 : Fin 1) (0 : Fin 1) l o) = (ix4 b g l o : S8x2x512x192.Idx) := by
  have h := idx2_2 (pt2 b g t)
  rw [pt2_b, pt2_g] at h
  funext a; apply Fin.ext
  match a with
  | ⟨0, _⟩ => show win2_2.index (pt2 b g t) (0 : Fin 4) * 1 + 1 * 0 = b.val; omega
  | ⟨1, _⟩ => show win2_2.index (pt2 b g t) (1 : Fin 4) * 1 + 1 * 0 = g.val; omega
  | ⟨2, _⟩ => show win2_2.index (pt2 b g t) (2 : Fin 4) * 512 + 1 * l.val = l.val; omega
  | ⟨3, _⟩ => show win2_2.index (pt2 b g t) (3 : Fin 4) * 192 + 1 * o.val = o.val; omega
/-- An entry of the third call's block of the values. -/
theorem iblk2_2 (c : Dev nD) (b : Fin 8) (g : Fin 2) (t : Fin 4) (l : Fin 512) (o : Fin 192) :
    iblk2 V c 2 (pt2 b g t) (ix4 (0 : Fin 1) (0 : Fin 1) l o) = V c main_call0_v11 (ix4 b g l o : S8x2x512x192.Idx) := by
  unfold iblk2; rw [View.read_apply, emb2_2]; rfl
/-- The place in the array of an entry of the third call's block of the positions. -/
theorem emb2_3 (b : Fin 8) (g : Fin 2) (t : Fin 4) (j : Fin 512) (l : Fin 3) :
    ((cfg2.win 3).blk (pt2 b g t)).view.emb (ix3 (0 : Fin 1) j l) = (ix3 b j l : S8x512x3.Idx) := by
  have h := idx2_3 (pt2 b g t)
  rw [pt2_b] at h
  funext a; apply Fin.ext
  match a with
  | ⟨0, _⟩ => show win2_3.index (pt2 b g t) (0 : Fin 3) * 1 + 1 * 0 = b.val; omega
  | ⟨1, _⟩ => show win2_3.index (pt2 b g t) (1 : Fin 3) * 512 + 1 * j.val = j.val; omega
  | ⟨2, _⟩ => show win2_3.index (pt2 b g t) (2 : Fin 3) * 3 + 1 * l.val = l.val; omega
/-- An entry of the third call's block of the positions. -/
theorem iblk2_3 (c : Dev nD) (b : Fin 8) (g : Fin 2) (t : Fin 4) (j : Fin 512) (l : Fin 3) :
    iblk2 V c 3 (pt2 b g t) (ix3 (0 : Fin 1) j l) = V c main_arg1 (ix3 b j l : S8x512x3.Idx) := by
  unfold iblk2; rw [View.read_apply, emb2_3]; rfl
/-- The place in the array of an entry of the third call's block of the transposed positions. -/
theorem emb2_4 (b : Fin 8) (g : Fin 2) (t : Fin 4) (j : Fin 3) (l : Fin 512) :
    ((cfg2.win 4).blk (pt2 b g t)).view.emb (ix3 (0 : Fin 1) j l) = (ix3 b j l : S8x3x512.Idx) := by
  have h := idx2_4 (pt2 b g t)
  rw [pt2_b] at h
  funext a; apply Fin.ext
  match a with
  | ⟨0, _⟩ => show win2_4.index (pt2 b g t) (0 : Fin 3) * 1 + 1 * 0 = b.val; omega
  | ⟨1, _⟩ => show win2_4.index (pt2 b g t) (1 : Fin 3) * 3 + 1 * j.val = j.val; omega
  | ⟨2, _⟩ => show win2_4.index (pt2 b g t) (2 : Fin 3) * 512 + 1 * l.val = l.val; omega
/-- An entry of the third call's block of the transposed positions. -/
theorem iblk2_4 (c : Dev nD) (b : Fin 8) (g : Fin 2) (t : Fin 4) (j : Fin 3) (l : Fin 512) :
    iblk2 V c 4 (pt2 b g t) (ix3 (0 : Fin 1) j l) = V c main_call0_v0 (ix3 b j l : S8x3x512.Idx) := by
  unfold iblk2; rw [View.read_apply, emb2_4]; rfl
/-- The place in the array of an entry of the third call's block of the features. -/
theorem emb2_5 (b : Fin 8) (g : Fin 2) (t : Fin 4) (l : Fin 512) (o : Fin 192) :
    ((cfg2.win 5).blk (pt2 b g t)).view.emb (ix4 (0 : Fin 1) (0 : Fin 1) l o) = (ix4 b g l o : S8x2x512x192.Idx) := by
  have h := idx2_5 (pt2 b g t)
  rw [pt2_b, pt2_g] at h
  funext a; apply Fin.ext
  match a with
  | ⟨0, _⟩ => show win2_5.index (pt2 b g t) (0 : Fin 4) * 1 + 1 * 0 = b.val; omega
  | ⟨1, _⟩ => show win2_5.index (pt2 b g t) (1 : Fin 4) * 1 + 1 * 0 = g.val; omega
  | ⟨2, _⟩ => show win2_5.index (pt2 b g t) (2 : Fin 4) * 512 + 1 * l.val = l.val; omega
  | ⟨3, _⟩ => show win2_5.index (pt2 b g t) (3 : Fin 4) * 192 + 1 * o.val = o.val; omega
/-- An entry of the third call's block of the features. -/
theorem iblk2_5 (c : Dev nD) (b : Fin 8) (g : Fin 2) (t : Fin 4) (l : Fin 512) (o : Fin 192) :
    iblk2 V c 5 (pt2 b g t) (ix4 (0 : Fin 1) (0 : Fin 1) l o) = V c main_call0_v13 (ix4 b g l o : S8x2x512x192.Idx) := by
  unfold iblk2; rw [View.read_apply, emb2_5]; rfl
/-- The place in the array of an entry of the third call's block of the first weight. -/
theorem emb2_6 (b : Fin 8) (g : Fin 2) (t : Fin 4) (i : Fin 384) (j : Fin 384) :
    ((cfg2.win 6).blk (pt2 b g t)).view.emb (ix2 i j) = (ix2 i j : S384x384.Idx) := by
  have h := idx2_6 (pt2 b g t)
  funext a; apply Fin.ext
  match a with
  | ⟨0, _⟩ => show win2_6.index (pt2 b g t) (0 : Fin 2) * 384 + 1 * i.val = i.val; omega
  | ⟨1, _⟩ => show win2_6.index (pt2 b g t) (1 : Fin 2) * 384 + 1 * j.val = j.val; omega
/-- An entry of the third call's block of the first weight. -/
theorem iblk2_6 (c : Dev nD) (b : Fin 8) (g : Fin 2) (t : Fin 4) (i : Fin 384) (j : Fin 384) :
    iblk2 V c 6 (pt2 b g t) (ix2 i j) = V c main_call0_v14 (ix2 i j : S384x384.Idx) := by
  unfold iblk2; rw [View.read_apply, emb2_6]; rfl
/-- The place in the array of an entry of the third call's block of the first bias. -/
theorem emb2_7 (b : Fin 8) (g : Fin 2) (t : Fin 4) (j : Fin 384) :
    ((cfg2.win 7).blk (pt2 b g t)).view.emb (ix2 (0 : Fin 1) j) = (ix2 0 j : S1x384.Idx) := by
  have h := idx2_7 (pt2 b g t)
  funext a; apply Fin.ext
  match a with
  | ⟨0, _⟩ => show win2_7.index (pt2 b g t) (0 : Fin 2) * 1 + 1 * 0 = 0; omega
  | ⟨1, _⟩ => show win2_7.index (pt2 b g t) (1 : Fin 2) * 384 + 1 * j.val = j.val; omega
/-- An entry of the third call's block of the first bias. -/
theorem iblk2_7 (c : Dev nD) (b : Fin 8) (g : Fin 2) (t : Fin 4) (j : Fin 384) :
    iblk2 V c 7 (pt2 b g t) (ix2 (0 : Fin 1) j) = V c main_call0_v15 (ix2 0 j : S1x384.Idx) := by
  unfold iblk2; rw [View.read_apply, emb2_7]; rfl
/-- The place in the array of an entry of the third call's block of the scale of the normalisation. -/
theorem emb2_8 (b : Fin 8) (g : Fin 2) (t : Fin 4) (j : Fin 384) :
    ((cfg2.win 8).blk (pt2 b g t)).view.emb (ix2 (0 : Fin 1) j) = (ix2 0 j : S1x384.Idx) := by
  have h := idx2_8 (pt2 b g t)
  funext a; apply Fin.ext
  match a with
  | ⟨0, _⟩ => show win2_8.index (pt2 b g t) (0 : Fin 2) * 1 + 1 * 0 = 0; omega
  | ⟨1, _⟩ => show win2_8.index (pt2 b g t) (1 : Fin 2) * 384 + 1 * j.val = j.val; omega
/-- An entry of the third call's block of the scale of the normalisation. -/
theorem iblk2_8 (c : Dev nD) (b : Fin 8) (g : Fin 2) (t : Fin 4) (j : Fin 384) :
    iblk2 V c 8 (pt2 b g t) (ix2 (0 : Fin 1) j) = V c main_call0_v16 (ix2 0 j : S1x384.Idx) := by
  unfold iblk2; rw [View.read_apply, emb2_8]; rfl
/-- The place in the array of an entry of the third call's block of the shift of the normalisation. -/
theorem emb2_9 (b : Fin 8) (g : Fin 2) (t : Fin 4) (j : Fin 384) :
    ((cfg2.win 9).blk (pt2 b g t)).view.emb (ix2 (0 : Fin 1) j) = (ix2 0 j : S1x384.Idx) := by
  have h := idx2_9 (pt2 b g t)
  funext a; apply Fin.ext
  match a with
  | ⟨0, _⟩ => show win2_9.index (pt2 b g t) (0 : Fin 2) * 1 + 1 * 0 = 0; omega
  | ⟨1, _⟩ => show win2_9.index (pt2 b g t) (1 : Fin 2) * 384 + 1 * j.val = j.val; omega
/-- An entry of the third call's block of the shift of the normalisation. -/
theorem iblk2_9 (c : Dev nD) (b : Fin 8) (g : Fin 2) (t : Fin 4) (j : Fin 384) :
    iblk2 V c 9 (pt2 b g t) (ix2 (0 : Fin 1) j) = V c main_call0_v17 (ix2 0 j : S1x384.Idx) := by
  unfold iblk2; rw [View.read_apply, emb2_9]; rfl
/-- The place in the array of an entry of the third call's block of the second weight. -/
theorem emb2_10 (b : Fin 8) (g : Fin 2) (t : Fin 4) (i : Fin 384) (j : Fin 3) :
    ((cfg2.win 10).blk (pt2 b g t)).view.emb (ix2 i j) = (ix2 i j : S384x3.Idx) := by
  have h := idx2_10 (pt2 b g t)
  funext a; apply Fin.ext
  match a with
  | ⟨0, _⟩ => show win2_10.index (pt2 b g t) (0 : Fin 2) * 384 + 1 * i.val = i.val; omega
  | ⟨1, _⟩ => show win2_10.index (pt2 b g t) (1 : Fin 2) * 3 + 1 * j.val = j.val; omega
/-- An entry of the third call's block of the second weight. -/
theorem iblk2_10 (c : Dev nD) (b : Fin 8) (g : Fin 2) (t : Fin 4) (i : Fin 384) (j : Fin 3) :
    iblk2 V c 10 (pt2 b g t) (ix2 i j) = V c main_call0_v18 (ix2 i j : S384x3.Idx) := by
  unfold iblk2; rw [View.read_apply, emb2_10]; rfl
/-- The place in the array of an entry of the third call's block of the interpolated features. -/
theorem emb2_11 (b : Fin 8) (g : Fin 2) (t : Fin 4) (l : Fin 1280) (o : Fin 192) :
    ((cfg2.win 11).blk (pt2 b g t)).view.emb (ix4 (0 : Fin 1) (0 : Fin 1) l o) = (ix4 b g (tileRow t l) o : S8x2x5120x192.Idx) := by
  have h := idx2_11 (pt2 b g t)
  rw [pt2_b, pt2_g, pt2_t] at h
  funext a; apply Fin.ext
  match a with
  | ⟨0, _⟩ => show win2_11.index (pt2 b g t) (0 : Fin 4) * 1 + 1 * 0 = b.val; omega
  | ⟨1, _⟩ => show win2_11.index (pt2 b g t) (1 : Fin 4) * 1 + 1 * 0 = g.val; omega
  | ⟨2, _⟩ => show win2_11.index (pt2 b g t) (2 : Fin 4) * 1280 + 1 * l.val = t.val * 1280 + l.val; omega
  | ⟨3, _⟩ => show win2_11.index (pt2 b g t) (3 : Fin 4) * 192 + 1 * o.val = o.val; omega

/-- The third call's result array. -/
theorem arr2_11 (c : Dev nD) (q v f : Fin 8 → Fin 2 → Fin 512 → Fin 192 → EReal) (P : Fin 8 → Fin 512 → Fin 3 → ℝ)
    (J : Fin 8 → Fin 512 → Fin 10 → Fin 512) (w1 : Fin 384 → Fin 384 → EReal) (b1 γ β : Fin 384 → EReal)
    (w2 : Fin 384 → Fin 3 → EReal)
    (hJ : ∀ b n k, V c main_call0_v1 (ix3 b n k : S8x512x10.Idx) = BitVec.ofNat 32 (J b n k))
    (hq : ∀ b g n e, V c main_call0_v9 (ix4 b g n e : S8x2x512x192.Idx) = q b g n e)
    (hv : ∀ b g n e, V c main_call0_v11 (ix4 b g n e : S8x2x512x192.Idx) = v b g n e)
    (hf : ∀ b g n e, V c main_call0_v13 (ix4 b g n e : S8x2x512x192.Idx) = f b g n e)
    (hP : ∀ b n x, V c main_arg1 (ix3 b n x : S8x512x3.Idx) = (P b n x : EReal))
    (hP' : ∀ b x n, V c main_call0_v0 (ix3 b x n : S8x3x512.Idx) = (P b n x : EReal))
    (hw1 : ∀ e d, V c main_call0_v14 (ix2 e d : S384x384.Idx) = w1 e d)
    (hb1 : ∀ d, V c main_call0_v15 (ix2 0 d : S1x384.Idx) = b1 d)
    (hγ : ∀ d, V c main_call0_v16 (ix2 0 d : S1x384.Idx) = γ d)
    (hβ : ∀ d, V c main_call0_v17 (ix2 0 d : S1x384.Idx) = β d)
    (hw2 : ∀ d x, V c main_call0_v18 (ix2 d x : S384x3.Idx) = w2 d x)
    (hvf : ∀ b g n e, v b g n e - v b g n e = 0)
    (b : Fin 8) (g : Fin 2) (t : Fin 4) (k : Fin 10) (j : Fin 128) (e : Fin 192) :
    (dat2 V c).arrAt 11 cfg2.N (ix4 b g (tileRow t (nrow k j)) e : S8x2x5120x192.Idx)
      = interpRow (q b g) (v b g) (f b g) (P b) (J b) w1 b1 γ β w2 (tilePt t j) k e := by
  have hd : ∀ (t : Fin 4) (k : Fin 10) (j : Fin 128), (tileRow t (nrow k j)).val = t.val * 1280 + (k.val * 128 + j.val) :=
    fun _ _ _ => rfl
  have hrow : ∀ (b : Fin 8) (g : Fin 2) (t : Fin 4) (k : Fin 10) (j : Fin 128) (e : Fin 192),
      interpRow (q b g) (v b g) (f b g) (P b) (J b) w1 b1 γ β w2
          (tilePt ⟨(tileRow t (nrow k j)).val / 1280, by omega⟩ ⟨(tileRow t (nrow k j)).val % 128, by omega⟩)
          ⟨(tileRow t (nrow k j)).val % 1280 / 128, by omega⟩ e
        = interpRow (q b g) (v b g) (f b g) (P b) (J b) w1 b1 γ β w2 (tilePt t j) k e := fun b g t k j e => by
    rw [show (⟨(tileRow t (nrow k j)).val / 1280, by omega⟩ : Fin 4) = t from Fin.ext (by show _ / 1280 = t.val; rw [hd]; omega),
      show (⟨(tileRow t (nrow k j)).val % 128, by omega⟩ : Fin 128) = j from Fin.ext (by show _ % 128 = j.val; rw [hd]; omega),
      show (⟨(tileRow t (nrow k j)).val % 1280 / 128, by omega⟩ : Fin 10) = k from
        Fin.ext (by show _ % 1280 / 128 = k.val; rw [hd]; omega)]
  have h := (dat2 V c).arrAt_eq_of_cover 11
    (fun i : S8x2x5120x192.Idx => (interpRow (q (i 0) (i 1)) (v (i 0) (i 1)) (f (i 0) (i 1)) (P (i 0)) (J (i 0)) w1 b1 γ β w2
      (tilePt ⟨(i 2 : Fin 5120).val / 1280, Nat.div_lt_of_lt_mul (n := 1280) (k := 4) (i 2).2⟩ ⟨(i 2 : Fin 5120).val % 128, by omega⟩)
      ⟨(i 2 : Fin 5120).val % 1280 / 128, by omega⟩ (i 3 : Fin 192) : EReal))
    (fun p _ => by
      obtain ⟨b, g, t, rfl⟩ : ∃ b g t, p = pt2 b g t := by
        have hp : p.val < 64 := p.2.trans_eq N_2
        exact ⟨⟨p / 8, by omega⟩, ⟨p / 4 % 2, by omega⟩, ⟨p % 4, by omega⟩,
          Fin.ext (by show p.val = (p.val / 8 * 2 + p.val / 4 % 2) * 4 + p.val % 4; omega)⟩
      show (cfg2.win 11).cut (grid2.coords _) ((dat2 V c).after 11 _) = _
      rw [after2_11]
      funext x
      show out2_11 _ _ _ _ _ _ _ _ _ _ _ x = _
      obtain ⟨z, z', r, e, rfl⟩ : ∃ (z z' : Fin 1) (r : Fin 1280) (e : Fin 192), x = ix4 z z' r e := ⟨_, _, _, _, eq_ix4 x⟩
      obtain rfl : z = 0 := Subsingleton.elim _ _
      obtain rfl : z' = 0 := Subsingleton.elim _ _
      obtain ⟨k, j, rfl⟩ := exists_nrow r
      rw [View.read_apply, emb2_11, out2_11_apply _ _ _ _ _ _ _ _ _ _ _
        (fun j k => J b (tilePt t j) k) (fun j k => by rw [iblk2_0, hJ])
        (fun m e => by rw [iblk2_2, hv, hvf])
        (fun m x => by rw [iblk2_3, hP, ← EReal.coe_sub, sub_self, EReal.coe_zero])
        (P b) (fun m x => by rw [iblk2_3, hP]) (fun m x => by rw [iblk2_4, hP'])]
      simp only [iblk2_1, iblk2_2, iblk2_5, iblk2_6, iblk2_7, iblk2_8, iblk2_9, iblk2_10, hq, hv, hf, hw1, hb1, hγ, hβ, hw2]
      exact (hrow b g t k j e).symm)
    (fun i => by
      obtain ⟨b, g, r, e, rfl⟩ : ∃ (b : Fin 8) (g : Fin 2) (r : Fin 5120) (e : Fin 192),
          i = (ix4 b g r e : S8x2x5120x192.Idx) := ⟨_, _, _, _, eq_ix4 i⟩
      obtain ⟨t, s, rfl⟩ := exists_tileRow r
      have h := ((cfg2.win 11).blk (pt2 b g t)).view.emb_mem_set (ix4 (0 : Fin 1) (0 : Fin 1) s e)
      rw [emb2_11] at h
      exact ⟨pt2 _ _ _, flush2_11 _, h⟩)
  rw [h]
  exact hrow b g t k j e

end Cert.Proof

end
-- ==== Proof.Region3.lean ====
/- What the last kernel call computes at an index. -/
module

public import proofs.«01_k».proof.Proof.Heads
public import proofs.«01_k».proof.Proof.Hot

@[expose] public section

set_option maxRecDepth 16384

noncomputable section

namespace Cert.Proof

open Idealize.ShloMosaic Idealize.ShloMosaic.TcCoe Cert.KernelIdeal Cert.KernelIdeal.Gen

/-- The largest of a family. -/
def greatest {n : ℕ} (L : Fin n → EReal) : EReal := Finset.univ.fold max (Ideal.ofBits .f32 0xFF800000#32) L

/-- The weights of a softmax over ten. -/
def soft (L : Fin 10 → EReal) (j : Fin 10) : EReal :=
  Ideal.div (Ideal.exp (L j - greatest L)) (∑ k, Ideal.exp (L k - greatest L))

/-- An entry of the scaled products of queries and keys. -/
theorem logits_apply (Q K : FVec Ideal S10x128x64 .f32) (i j : Fin 10) (n : Fin 128) :
    logits Q K (ix3 i j n) = (∑ c, Q (ix3 i n c) * K (ix3 j n c)) * Ideal.ofBits .f32 0x3E000000#32 := by
  match j with
  | ⟨0, _⟩ => pointwise [logits, logit, rowOf]
  | ⟨1, _⟩ => pointwise [logits, logit, rowOf]
  | ⟨2, _⟩ => pointwise [logits, logit, rowOf]
  | ⟨3, _⟩ => pointwise [logits, logit, rowOf]
  | ⟨4, _⟩ => pointwise [logits, logit, rowOf]
  | ⟨5, _⟩ => pointwise [logits, logit, rowOf]
  | ⟨6, _⟩ => pointwise [logits, logit, rowOf]
  | ⟨7, _⟩ => pointwise [logits, logit, rowOf]
  | ⟨8, _⟩ => pointwise [logits, logit, rowOf]
  | ⟨9, _⟩ => pointwise [logits, logit, rowOf]

/-- An entry of the softmax over the neighbours. -/
theorem softBlock_apply (L : FVec Ideal S10x10x128 .f32) (i j : Fin 10) (n : Fin 128) :
    softBlock L (ix3 i j n) = soft (fun k => L (ix3 i k n)) j := by
  unfold soft greatest
  pointwise [softBlock, expBlock]

/-- An entry of the values mixed by the weights. -/
theorem mix_apply (A : FVec Ideal S10x10x128 .f32) (V : FVec Ideal S10x128x64 .f32) (i : Fin 10) (n : Fin 128)
    (d : Fin 64) : mix A V (ix3 i n d) = ∑ j : Fin 10, A (ix3 i j n) * V (ix3 j n d) := by
  simp only [Fin.sum_univ_succ, Fin.sum_univ_zero, add_zero]
  pointwise [mix, part, rowOf]
  simp only [← add_assoc]
  rfl

/-- An entry of one head. -/
theorem head_apply (Q K V : FVec Ideal S10x128x64 .f32) (n : Fin 128) (d : Fin 64) :
    head Q K V (ix2 n d) = greatest fun i => ∑ j : Fin 10,
      soft (fun k => (∑ c, Q (ix3 i n c) * K (ix3 k n c)) * Ideal.ofBits .f32 0x3E000000#32) j * V (ix3 j n d) := by
  unfold greatest
  simp only [← logits_apply, ← softBlock_apply, ← mix_apply]
  pointwise [head]

/-- Column `c` of head `h`. -/
def hcol (h : Fin 6) (c : Fin 64) : Fin 384 := ⟨64 * h + c, by omega⟩

/-- The attention of head `h`, as the largest over the ten queries. -/
def attn (Q K V : Fin 10 → Fin 384 → EReal) (h : Fin 6) (d : Fin 64) : EReal :=
  greatest fun i => ∑ j : Fin 10,
      soft (fun k => (∑ c, Q i (hcol h c) * K k (hcol h c)) * Ideal.ofBits .f32 0x3E000000#32) j * V j (hcol h d)

/-- A head on a slice, at an index. -/
theorem headAt_apply (h : Fin 6) (o : Fin 3 → Nat) (ho : o = ![0, 0, 64 * h.val]) (hs : S10x128x384.Slices o S10x128x64)
    (Q K V : FVec Ideal S10x128x384 .f32) (n : Fin 128) (d : Fin 64) :
    headAt o hs Q K V (ix2 n d) = attn (fun i e => Q (ix3 i n e)) (fun i e => K (ix3 i n e))
      (fun i e => V (ix3 i n e)) h d := by
  subst ho
  unfold attn
  match h with
  | ⟨0, _⟩ => pointwise [headAt, head_apply, hcol]
  | ⟨1, _⟩ => pointwise [headAt, head_apply, hcol]
  | ⟨2, _⟩ => pointwise [headAt, head_apply, hcol]
  | ⟨3, _⟩ => pointwise [headAt, head_apply, hcol]
  | ⟨4, _⟩ => pointwise [headAt, head_apply, hcol]
  | ⟨5, _⟩ => pointwise [headAt, head_apply, hcol]

/-- Each head is a slice of the columns. -/
theorem slicesOf : ∀ h : Fin 6, S10x128x384.Slices ![0, 0, 64 * h.val] S10x128x64 := by decide

/-- Head `h`'s slice. -/
def headOf (Q K V : FVec Ideal S10x128x384 .f32) (h : Fin 6) : FVec Ideal S128x64 .f32 :=
  headAt ![0, 0, 64 * h.val] (slicesOf h) Q K V

/-- An entry of the head cut from the columns. -/
theorem headOf_apply (Q K V : FVec Ideal S10x128x384 .f32) (n : Fin 128) (h : Fin 6) (d : Fin 64) :
    headOf Q K V h (ix2 n d) = attn (fun i e => Q (ix3 i n e)) (fun i e => K (ix3 i n e))
      (fun i e => V (ix3 i n e)) h d := headAt_apply h _ rfl _ Q K V n d

/-- The six heads side by side are the pieces of one family. -/
theorem sixHeads_eq (Q K V : FVec Ideal S10x128x384 .f32) :
    sixHeads Q K V = concatenate S128x384 1 (List.ofFn fun h : Fin 6 => ⟨S128x64, headOf Q K V h⟩)
      concatenates_S128x64_S128x64_S128x64_S128x64_S128x64_S128x64_S128x384_d1 := by
  unfold sixHeads headOf
  rfl

/-- An entry of the six heads side by side. -/
theorem sixHeads_apply (Q K V : FVec Ideal S10x128x384 .f32) (n : Fin 128) (h : Fin 6) (d : Fin 64) :
    sixHeads Q K V (ix2 n (hcol h d)) = attn (fun i e => Q (ix3 i n e)) (fun i e => K (ix3 i n e))
      (fun i e => V (ix3 i n e)) h d := by
  rw [← headOf_apply, sixHeads_eq]
  refine concatenate_ofFn_apply (t := S128x384) (s₁ := S128x64) 1 (headOf Q K V)
    concatenates_S128x64_S128x64_S128x64_S128x64_S128x64_S128x64_S128x384_d1 rfl 64 rfl (ix2 n (hcol h d)) h ?_
    (ix2 n d) ?_ fun b hb => ?_
  · show (64 * h.val + d.val) / 64 = h.val; omega
  · show d.val = (64 * h.val + d.val) % 64; omega
  · match b with
    | ⟨0, _⟩ => rfl
    | ⟨1, _⟩ => exact absurd rfl hb

/-- The block the body stores, at an index. -/
theorem attnPay_apply (Q K V : FVec Ideal S10x128x384 .f32) (w : Vec Ideal S384x384 .f32) (b : Vec Ideal S1x384 .f32)
    (n : Fin 128) (d : Fin 384) :
    attnPay Q K V w b (ix3 0 n d) = (∑ e, sixHeads Q K V (ix2 n e) * w (ix2 e d)) + b (ix2 0 d) := by
  pointwise [attnPay, k3_pay1, k3_pay120]

/-- The keys: the interpolated rows through a weight. -/
theorem keys_apply (x0 : Vec Ideal S1x2x1280x192 .f32) (w : Vec Ideal S384x384 .f32) (I : Fin 1280 → Fin 384 → EReal)
    (hI : ∀ r (g : Fin 2) (c : Fin 192), x0 (ix4 0 g r c) = I r ⟨192 * g + c, by omega⟩) (r : Fin 1280) (d : Fin 384) :
    k3_pay3 x0 w (ix2 r d) = ∑ e, I r e * w (ix2 e d) := by
  rw [Fin.sum_univ_add (a := 192) (b := 192) fun e => I r e * w (ix2 e d)]
  pointwise [k3_pay3, k3_pay2, hI]
  rfl

/-- Column `e`'s head and its place there. -/
def hd (e : Fin 384) : Fin 6 := ⟨e / 64, by omega⟩
/-- A column's place in its head. -/
def hc (e : Fin 384) : Fin 64 := ⟨e % 64, by omega⟩

/-- A column is its head's column at its place. -/
theorem hcol_hd (e : Fin 384) : hcol (hd e) (hc e) = e := Fin.ext (by show 64 * (e.val / 64) + e.val % 64 = e.val; omega)

/-- The last call's row: six heads of attention, then the last product and bias. -/
def attnRow (Q K V : Fin 10 → Fin 384 → EReal) (w : Fin 384 → Fin 384 → EReal) (b : Fin 384 → EReal) (d : Fin 384) : EReal :=
  (∑ e, attn Q K V (hd e) (hc e) * w e d) + b d

/-- The stored block's row is the attention row. -/
theorem attnRow_eq (Q K V : FVec Ideal S10x128x384 .f32) (w : Vec Ideal S384x384 .f32) (b : Vec Ideal S1x384 .f32)
    (n : Fin 128) (d : Fin 384) :
    attnPay Q K V w b (ix3 0 n d) = attnRow (fun i e => Q (ix3 i n e)) (fun i e => K (ix3 i n e))
      (fun i e => V (ix3 i n e)) (fun e d => w (ix2 e d)) (fun d => b (ix2 0 d)) d := by
  rw [attnPay_apply]
  unfold attnRow
  simp only [← sixHeads_apply, hcol_hd]

section
variable (x0 : Vec Ideal S1x2x1280x192 .f32) (x1 : Vec Ideal S1x128x10 .i32) (x2 : Vec Ideal S1x512x384 .f32)
  (x3 x4 x5 : Vec Ideal S384x384 .f32) (x6 : Vec Ideal S1x384 .f32)

/-- The queries that the body takes are the one-hot rows times the queries. -/
theorem pay130_eq : k3_pay130 x0 x1 x2 x3 x4 x5 x6 = shapeCast S10x128x384 (matmul (φ₁ := .f32) (φ₂ := .f32) dot_S1280x512_S512x384_S1280x384_1_0_0_1_n_n none
    (hotStack (k3_pay5 (View.ld x1 r3_2))) (shapeCast S512x384 (View.ld x2 r3_3) shapeCasts_S1x512x384_S512x384)
      (constant S1280x384 .f32 0x00000000#32)) shapeCasts_S1280x384_S10x128x384 := by
  unfold k3_pay130
  rfl

/-- The block the last call's body leaves, at an index. -/
theorem out3_7_apply (I : Fin 1280 → Fin 384 → EReal)
    (hI : ∀ r (g : Fin 2) (c : Fin 192), x0 (ix4 0 g r c) = I r ⟨192 * g + c, by omega⟩)
    (J : Fin 128 → Fin 10 → Fin 512) (hJ : ∀ j k, x1 (ix3 0 j k) = BitVec.ofNat 32 (J j k)) (n : Fin 128) (d : Fin 384) :
    out3_7 x0 x1 x2 x3 x4 x5 x6 (ix3 0 n d) = attnRow (fun k e => x2 (ix3 0 (J n k) e))
      (fun k d => ∑ e, I (nrow k n) e * x3 (ix2 e d)) (fun k d => ∑ e, I (nrow k n) e * x4 (ix2 e d))
      (fun e d => x5 (ix2 e d)) (fun d => x6 (ix2 0 d)) d := by
  rw [out3_7_eq, View.canon_unit_zero hz3, attnRow_eq]
  have hQ : (fun (k : Fin 10) (e : Fin 384) => k3_pay130 x0 x1 x2 x3 x4 x5 x6 (ix3 k n e)) = fun k e => x2 (ix3 0 (J n k) e) := by
    funext k e
    rw [pay130_eq, pick_apply _ J, View.ld_unit_zero hz3]
    · pointwise []
    · intro j k
      rw [← hJ, View.ld_unit_zero hz3]
      pointwise [k3_pay5]
  have hK : (fun (k : Fin 10) (e : Fin 384) => k3_pay131 x0 x1 x2 x3 x4 x5 x6 (ix3 k n e))
      = fun k d => ∑ e, I (nrow k n) e * x3 (ix2 e d) := by
    funext k e
    unfold k3_pay131 k3_pay122 k3_pay12
    rw [View.ld_unit_zero hz4, View.ld_unit_zero hz2]
    exact (blocks_apply _ k n e).trans (keys_apply x0 x3 I hI _ _)
  have hV : (fun (k : Fin 10) (e : Fin 384) => k3_pay132 x0 x1 x2 x3 x4 x5 x6 (ix3 k n e))
      = fun k d => ∑ e, I (nrow k n) e * x4 (ix2 e d) := by
    funext k e
    unfold k3_pay132 k3_pay123 k3_pay13
    rw [View.ld_unit_zero hz4, View.ld_unit_zero hz2]
    exact (blocks_apply _ k n e).trans (keys_apply x0 x4 I hI _ _)
  rw [hQ, hK, hV, View.ld_unit_zero hz2, View.ld_unit_zero hz2]

end

end Cert.Proof

end
-- ==== Proof.Array3.lean ====
/- The fourth kernel call's result array, from its blocks: tile `t` of batch `b` holds the attention rows of that tile's
   points. -/
module

public import proofs.«01_k».proof.Proof.Region3
public import proofs.«01_k».proof.Proof.Tiles
import Idealize.ShloMosaic.Lib.Pipeline.Value

@[expose] public section

set_option maxRecDepth 16384

noncomputable section

namespace Cert.Proof

open Idealize.ShloMosaic Idealize.ShloMosaic.TcCoe Cert.KernelIdeal Cert.KernelIdeal.Gen

variable (V : (c : Dev nD) → (b : Ref sig .tc) → Buf (Elt Ideal) ((c : Thread nD τ).loc b))

/-- Where the fourth call's blocks of the interpolated features lie. -/
theorem idx3_0 : ∀ t : Fin cfg3.N, win3_0.index t (0 : Fin 4) = t.val / 4 ∧ win3_0.index t (1 : Fin 4) = 0
    ∧ win3_0.index t (2 : Fin 4) = t.val % 4 ∧ win3_0.index t (3 : Fin 4) = 0 :=
  (by decide +kernel : ∀ t : Fin grid3.N, _)
/-- Where the fourth call's blocks of the indices of the nearest points lie. -/
theorem idx3_1 : ∀ t : Fin cfg3.N, win3_1.index t (0 : Fin 3) = t.val / 4 ∧ win3_1.index t (1 : Fin 3) = t.val % 4
    ∧ win3_1.index t (2 : Fin 3) = 0 := (by decide +kernel : ∀ t : Fin grid3.N, _)
/-- Where the fourth call's blocks of the queries lie. -/
theorem idx3_2 : ∀ t : Fin cfg3.N, win3_2.index t (0 : Fin 3) = t.val / 4 ∧ win3_2.index t (1 : Fin 3) = 0
    ∧ win3_2.index t (2 : Fin 3) = 0 := (by decide +kernel : ∀ t : Fin grid3.N, _)
/-- Where the fourth call's blocks of the key weight lie. -/
theorem idx3_3 : ∀ t : Fin cfg3.N, win3_3.index t (0 : Fin 2) = 0 ∧ win3_3.index t (1 : Fin 2) = 0 :=
  (by decide +kernel : ∀ t : Fin grid3.N, _)
/-- Where the fourth call's blocks of the value weight lie. -/
theorem idx3_4 : ∀ t : Fin cfg3.N, win3_4.index t (0 : Fin 2) = 0 ∧ win3_4.index t (1 : Fin 2) = 0 :=
  (by decide +kernel : ∀ t : Fin grid3.N, _)
/-- Where the fourth call's blocks of the last weight lie. -/
theorem idx3_5 : ∀ t : Fin cfg3.N, win3_5.index t (0 : Fin 2) = 0 ∧ win3_5.index t (1 : Fin 2) = 0 :=
  (by decide +kernel : ∀ t : Fin grid3.N, _)
/-- Where the fourth call's blocks of the last bias lie. -/
theorem idx3_6 : ∀ t : Fin cfg3.N, win3_6.index t (0 : Fin 2) = 0 ∧ win3_6.index t (1 : Fin 2) = 0 :=
  (by decide +kernel : ∀ t : Fin grid3.N, _)
/-- Where the fourth call's blocks of the result lie. -/
theorem idx3_7 : ∀ t : Fin cfg3.N, win3_7.index t (0 : Fin 3) = t.val / 4 ∧ win3_7.index t (1 : Fin 3) = t.val % 4
    ∧ win3_7.index t (2 : Fin 3) = 0 := (by decide +kernel : ∀ t : Fin grid3.N, _)

/-- Tile `t` of batch `b`'s point of the grid. -/
def pt3 (b : Fin 8) (t : Fin 4) : Fin cfg3.N := ⟨b * 4 + t, by rw [show cfg3.N = 32 from N_3]; omega⟩

/-- The batch of a point of the grid. -/
theorem pt3_div (b : Fin 8) (t : Fin 4) : (pt3 b t).val / 4 = b := by show (b.val * 4 + t.val) / 4 = b.val; omega
/-- The tile of a point of the grid. -/
theorem pt3_mod (b : Fin 8) (t : Fin 4) : (pt3 b t).val % 4 = t := by show (b.val * 4 + t.val) % 4 = t.val; omega

/-- The place in the array of an entry of the fourth call's block of the interpolated features. -/
theorem emb3_0 (b : Fin 8) (t : Fin 4) (g : Fin 2) (r : Fin 1280) (e : Fin 192) :
    ((cfg3.win 0).blk (pt3 b t)).view.emb (ix4 (0 : Fin 1) g r e) = (ix4 b g (tileRow t r) e : S8x2x5120x192.Idx) := by
  have h := idx3_0 (pt3 b t)
  rw [pt3_div, pt3_mod] at h
  funext a; apply Fin.ext
  match a with
  | ⟨0, _⟩ => show win3_0.index (pt3 b t) (0 : Fin 4) * 1 + 1 * 0 = b.val; omega
  | ⟨1, _⟩ => show win3_0.index (pt3 b t) (1 : Fin 4) * 2 + 1 * g.val = g.val; omega
  | ⟨2, _⟩ => show win3_0.index (pt3 b t) (2 : Fin 4) * 1280 + 1 * r.val = t.val * 1280 + r.val; omega
  | ⟨3, _⟩ => show win3_0.index (pt3 b t) (3 : Fin 4) * 192 + 1 * e.val = e.val; omega
/-- The place in the array of an entry of the fourth call's block of the indices of the nearest points. -/
theorem emb3_1 (b : Fin 8) (t : Fin 4) (j : Fin 128) (k : Fin 10) :
    ((cfg3.win 1).blk (pt3 b t)).view.emb (ix3 (0 : Fin 1) j k) = (ix3 b (tilePt t j) k : S8x512x10.Idx) := by
  have h := idx3_1 (pt3 b t)
  rw [pt3_div, pt3_mod] at h
  funext a; apply Fin.ext
  match a with
  | ⟨0, _⟩ => show win3_1.index (pt3 b t) (0 : Fin 3) * 1 + 1 * 0 = b.val; omega
  | ⟨1, _⟩ => show win3_1.index (pt3 b t) (1 : Fin 3) * 128 + 1 * j.val = t.val * 128 + j.val; omega
  | ⟨2, _⟩ => show win3_1.index (pt3 b t) (2 : Fin 3) * 10 + 1 * k.val = k.val; omega
/-- The place in the array of an entry of the fourth call's block of the queries. -/
theorem emb3_2 (b : Fin 8) (t : Fin 4) (n : Fin 512) (e : Fin 384) :
    ((cfg3.win 2).blk (pt3 b t)).view.emb (ix3 (0 : Fin 1) n e) = (ix3 b n e : S8x512x384.Idx) := by
  have h := idx3_2 (pt3 b t)
  rw [pt3_div] at h
  funext a; apply Fin.ext
  match a with
  | ⟨0, _⟩ => show win3_2.index (pt3 b t) (0 : Fin 3) * 1 + 1 * 0 = b.val; omega
  | ⟨1, _⟩ => show win3_2.index (pt3 b t) (1 : Fin 3) * 512 + 1 * n.val = n.val; omega
  | ⟨2, _⟩ => show win3_2.index (pt3 b t) (2 : Fin 3) * 384 + 1 * e.val = e.val; omega
/-- The place in the array of an entry of the fourth call's block of the key weight. -/
theorem emb3_3 (p : Fin cfg3.N) (d e : Fin 384) :
    ((cfg3.win 3).blk p).view.emb (ix2 d e) = (ix2 d e : S384x384.Idx) := by
  have h := idx3_3 p
  funext a; apply Fin.ext
  match a with
  | ⟨0, _⟩ => show win3_3.index p (0 : Fin 2) * 384 + 1 * d.val = d.val; omega
  | ⟨1, _⟩ => show win3_3.index p (1 : Fin 2) * 384 + 1 * e.val = e.val; omega
/-- The place in the array of an entry of the fourth call's block of the value weight. -/
theorem emb3_4 (p : Fin cfg3.N) (d e : Fin 384) :
    ((cfg3.win 4).blk p).view.emb (ix2 d e) = (ix2 d e : S384x384.Idx) := by
  have h := idx3_4 p
  funext a; apply Fin.ext
  match a with
  | ⟨0, _⟩ => show win3_4.index p (0 : Fin 2) * 384 + 1 * d.val = d.val; omega
  | ⟨1, _⟩ => show win3_4.index p (1 : Fin 2) * 384 + 1 * e.val = e.val; omega
/-- The place in the array of an entry of the fourth call's block of the last weight. -/
theorem emb3_5 (p : Fin cfg3.N) (d e : Fin 384) :
    ((cfg3.win 5).blk p).view.emb (ix2 d e) = (ix2 d e : S384x384.Idx) := by
  have h := idx3_5 p
  funext a; apply Fin.ext
  match a with
  | ⟨0, _⟩ => show win3_5.index p (0 : Fin 2) * 384 + 1 * d.val = d.val; omega
  | ⟨1, _⟩ => show win3_5.index p (1 : Fin 2) * 384 + 1 * e.val = e.val; omega
/-- The place in the array of an entry of the fourth call's block of the last bias. -/
theorem emb3_6 (p : Fin cfg3.N) (e : Fin 384) :
    ((cfg3.win 6).blk p).view.emb (ix2 (0 : Fin 1) e) = (ix2 0 e : S1x384.Idx) := by
  have h := idx3_6 p
  funext a; apply Fin.ext
  match a with
  | ⟨0, _⟩ => show win3_6.index p (0 : Fin 2) * 1 + 1 * 0 = 0; omega
  | ⟨1, _⟩ => show win3_6.index p (1 : Fin 2) * 384 + 1 * e.val = e.val; omega
/-- The place in the array of an entry of the fourth call's block of the result. -/
theorem emb3_7 (b : Fin 8) (t : Fin 4) (j : Fin 128) (e : Fin 384) :
    ((cfg3.win 7).blk (pt3 b t)).view.emb (ix3 (0 : Fin 1) j e) = (ix3 b (tilePt t j) e : S8x512x384.Idx) := by
  have h := idx3_7 (pt3 b t)
  rw [pt3_div, pt3_mod] at h
  funext a; apply Fin.ext
  match a with
  | ⟨0, _⟩ => show win3_7.index (pt3 b t) (0 : Fin 3) * 1 + 1 * 0 = b.val; omega
  | ⟨1, _⟩ => show win3_7.index (pt3 b t) (1 : Fin 3) * 128 + 1 * j.val = t.val * 128 + j.val; omega
  | ⟨2, _⟩ => show win3_7.index (pt3 b t) (2 : Fin 3) * 384 + 1 * e.val = e.val; omega

/-- An entry of the fourth call's block of the interpolated features. -/
theorem iblk3_0 (c : Dev nD) (b : Fin 8) (t : Fin 4) (g : Fin 2) (r : Fin 1280) (e : Fin 192) :
    iblk3 V c 0 (pt3 b t) (ix4 (0 : Fin 1) g r e) = V c main_call0_v19 (ix4 b g (tileRow t r) e : S8x2x5120x192.Idx) := by
  unfold iblk3; rw [View.read_apply, emb3_0]; rfl
/-- An entry of the fourth call's block of the indices of the nearest points. -/
theorem iblk3_1 (c : Dev nD) (b : Fin 8) (t : Fin 4) (j : Fin 128) (k : Fin 10) :
    iblk3 V c 1 (pt3 b t) (ix3 (0 : Fin 1) j k) = V c main_call0_v1 (ix3 b (tilePt t j) k : S8x512x10.Idx) := by
  unfold iblk3; rw [View.read_apply, emb3_1]; rfl
/-- An entry of the fourth call's block of the queries. -/
theorem iblk3_2 (c : Dev nD) (b : Fin 8) (t : Fin 4) (n : Fin 512) (e : Fin 384) :
    iblk3 V c 2 (pt3 b t) (ix3 (0 : Fin 1) n e) = V c main_call0_v6 (ix3 b n e : S8x512x384.Idx) := by
  unfold iblk3; rw [View.read_apply, emb3_2]; rfl
/-- An entry of the fourth call's block of the key weight. -/
theorem iblk3_3 (c : Dev nD) (p : Fin cfg3.N) (d e : Fin 384) :
    iblk3 V c 3 p (ix2 d e) = V c main_call0_v20 (ix2 d e : S384x384.Idx) := by
  unfold iblk3; rw [View.read_apply, emb3_3]; rfl
/-- An entry of the fourth call's block of the value weight. -/
theorem iblk3_4 (c : Dev nD) (p : Fin cfg3.N) (d e : Fin 384) :
    iblk3 V c 4 p (ix2 d e) = V c main_call0_v21 (ix2 d e : S384x384.Idx) := by
  unfold iblk3; rw [View.read_apply, emb3_4]; rfl
/-- An entry of the fourth call's block of the last weight. -/
theorem iblk3_5 (c : Dev nD) (p : Fin cfg3.N) (d e : Fin 384) :
    iblk3 V c 5 p (ix2 d e) = V c main_call0_v22 (ix2 d e : S384x384.Idx) := by
  unfold iblk3; rw [View.read_apply, emb3_5]; rfl
/-- An entry of the fourth call's block of the last bias. -/
theorem iblk3_6 (c : Dev nD) (p : Fin cfg3.N) (e : Fin 384) :
    iblk3 V c 6 p (ix2 (0 : Fin 1) e) = V c main_call0_v23 (ix2 0 e : S1x384.Idx) := by
  unfold iblk3; rw [View.read_apply, emb3_6]; rfl

/-- The result array. `I b n k e` is the interpolated feature `e` of neighbour `k` of point `n`, read from the third
    call's array in its two halves. -/
theorem arr3_7 (c : Dev nD) (I : Fin 8 → Fin 512 → Fin 10 → Fin 384 → EReal) (J : Fin 8 → Fin 512 → Fin 10 → Fin 512)
    (q : Fin 8 → Fin 512 → Fin 384 → EReal) (wk wv wp : Fin 384 → Fin 384 → EReal) (bp : Fin 384 → EReal)
    (hI : ∀ b (g : Fin 2) (t : Fin 4) k j (e : Fin 192),
      V c main_call0_v19 (ix4 b g (tileRow t (nrow k j)) e : S8x2x5120x192.Idx)
        = I b (tilePt t j) k ⟨192 * g + e, by omega⟩)
    (hJ : ∀ b n k, V c main_call0_v1 (ix3 b n k : S8x512x10.Idx) = BitVec.ofNat 32 (J b n k))
    (hq : ∀ b n e, V c main_call0_v6 (ix3 b n e : S8x512x384.Idx) = q b n e)
    (hk : ∀ e d, V c main_call0_v20 (ix2 e d : S384x384.Idx) = wk e d)
    (hv : ∀ e d, V c main_call0_v21 (ix2 e d : S384x384.Idx) = wv e d)
    (hp : ∀ e d, V c main_call0_v22 (ix2 e d : S384x384.Idx) = wp e d)
    (hb : ∀ d, V c main_call0_v23 (ix2 0 d : S1x384.Idx) = bp d) (b : Fin 8) (n : Fin 512) (d : Fin 384) :
    (dat3 V c).arrAt 7 cfg3.N (ix3 b n d : S8x512x384.Idx)
      = attnRow (fun k e => q b (J b n k) e) (fun k d => ∑ e, I b n k e * wk e d) (fun k d => ∑ e, I b n k e * wv e d)
          wp bp d := by
  have h := (dat3 V c).arrAt_eq_of_cover 7
    (fun i : S8x512x384.Idx => (attnRow (fun k e => q (i 0) (J (i 0) (i 1) k) e)
      (fun k d => ∑ e, I (i 0) (i 1) k e * wk e d) (fun k d => ∑ e, I (i 0) (i 1) k e * wv e d) wp bp (i 2 : Fin 384) : EReal))
    (fun p _ => by
      obtain ⟨b, t, rfl⟩ : ∃ b t, p = pt3 b t := by
        have hp : p.val < 32 := p.2.trans_eq N_3
        exact ⟨⟨p / 4, by omega⟩, ⟨p % 4, by omega⟩, Fin.ext (Nat.div_add_mod' _ _).symm⟩
      show (cfg3.win 7).cut (grid3.coords _) ((dat3 V c).after 7 _) = _
      rw [after3_7]
      funext x
      show out3_7 _ _ _ _ _ _ _ x = _
      obtain ⟨z, j, d, rfl⟩ : ∃ (z : Fin 1) (j : Fin 128) (d : Fin 384), x = ix3 z j d := ⟨_, _, _, eq_ix3 x⟩
      obtain rfl : z = 0 := Subsingleton.elim _ _
      have hI' : ∀ (k : Fin 10) (j : Fin 128) (e : Fin 384), I b (tilePt t ⟨(nrow k j).val % 128, by omega⟩) ⟨(nrow k j).val / 128, by omega⟩ e
          = I b (tilePt t j) k e := fun k j e => by
        rw [show (⟨(nrow k j).val % 128, by omega⟩ : Fin 128) = j from Fin.ext (nrow_mod k j),
          show (⟨(nrow k j).val / 128, by omega⟩ : Fin 10) = k from Fin.ext (nrow_div k j)]
      rw [View.read_apply, emb3_7, out3_7_apply _ _ _ _ _ _ _
        (fun r e => I b (tilePt t ⟨r.val % 128, by omega⟩) ⟨r.val / 128, by omega⟩ e)
        (fun r g e => by
          obtain ⟨k, j, rfl⟩ := exists_nrow r
          rw [iblk3_0, hI, hI'])
        (fun j k => J b (tilePt t j) k) (fun j k => by rw [iblk3_1, hJ])]
      simp only [iblk3_2, iblk3_3, iblk3_4, iblk3_5, iblk3_6, hq, hk, hv, hp, hb]
      simp only [hI']
      rfl)
    (fun i => by
      obtain ⟨b, n, d, rfl⟩ : ∃ (b : Fin 8) (n : Fin 512) (d : Fin 384), i = (ix3 b n d : S8x512x384.Idx) :=
        ⟨_, _, _, eq_ix3 i⟩
      have h := ((cfg3.win 7).blk (pt3 b ⟨n / 128, by omega⟩)).view.emb_mem_set
        (ix3 (0 : Fin 1) (⟨n % 128, by omega⟩ : Fin 128) d)
      rw [emb3_7] at h
      rw [show tilePt ⟨n / 128, by omega⟩ ⟨n % 128, by omega⟩ = n from Fin.ext (Nat.div_add_mod' _ _)] at h
      exact ⟨pt3 _ _, flush3_7 _, h⟩)
  rw [h]
  rfl

end Cert.Proof

end
-- ==== Proof.HostValues.lean ====
/- What the host operations between the calls of the kernel leave: transposed weights, flattened and regrouped arrays, each
   read at an index. -/
module

public import proofs.«01_k».proof.Proof.Gen.KernelIdeal.Frame
public import Idealize.ShloMosaic.Lib.StableHlo.ReadAt
public import Idealize.ShloMosaic.Lib.Pointwise

@[expose] public section

set_option maxRecDepth 16384

noncomputable section

namespace Cert.Proof

open Idealize.ShloMosaic Idealize.ShloMosaic.TcCoe Cert.KernelIdeal Cert.KernelIdeal.Gen

variable (W : Valuation τ sig (Elt Ideal))

/-- Row `n` of batch `b` in the flattened array. -/
def flat (b : Fin 8) (n : Fin 512) : Fin 4096 := ⟨b * 512 + n, by omega⟩

/-- Column `e` of half `g`. -/
def col (g : Fin 2) (e : Fin 192) : Fin 384 := ⟨192 * g + e, by omega⟩

/-- The same column, written row-major. -/
theorem col_eq (g : Fin 2) (e : Fin 192) : col g e = ⟨g * 192 + e, by omega⟩ :=
  Fin.ext (by show 192 * g.val + e.val = g.val * 192 + e.val; omega)

/-- Splitting the columns of an array in two halves and putting the half first. -/
theorem halves_apply (X : Vec Ideal S8x512x384 .f32) (h1 : S8x512x384.ShapeCasts S8x512x2x192)
    (h2 : S8x512x2x192.Transposes [0, 2, 1, 3] S8x2x512x192) (b : Fin 8) (g : Fin 2) (n : Fin 512) (e : Fin 192) :
    transpose S8x2x512x192 [0, 2, 1, 3] (shapeCast S8x512x2x192 X h1) h2 (ix4 b g n e) = X (ix3 b n (col g e)) := by
  rw [col_eq]
  pointwise

/-- The rows of a flattened array. -/
theorem rows_apply (X : Vec Ideal S4096x384 .f32) (h1 : S4096x384.ShapeCasts S8x512x384) (b : Fin 8) (n : Fin 512)
    (e : Fin 384) : shapeCast S8x512x384 X h1 (ix3 b n e) = X (ix2 (flat b n) e) := by
  unfold flat
  pointwise

/-- The transposed positions. -/
theorem host0_v0 (b : Fin 8) (k : Fin 3) (n : Fin 512) :
    StableHlo.after hostOps0 W (Proc.devRef .tc main_call0_v0) (ix3 b k n : S8x3x512.Idx)
      = W (Proc.devRef .tc main_arg1) (ix3 b n k : S8x512x3.Idx) := by
  after_reads_at

/-- The features with batch and point as one axis. -/
theorem host1_v2 (b : Fin 8) (n : Fin 512) (e : Fin 384) :
    StableHlo.after hostOps1 W (Proc.devRef .tc main_call0_v2) (ix2 (flat b n) e : S4096x384.Idx)
      = W (Proc.devRef .tc main_arg0) (ix3 b n e : S8x512x384.Idx) := by
  unfold flat; after_reads_at
/-- The query weight transposed. -/
theorem host1_v3 (e d : Fin 384) :
    StableHlo.after hostOps1 W (Proc.devRef .tc main_call0_v3) (ix2 e d : S384x384.Idx)
      = W (Proc.devRef .tc main_arg2) (ix2 d e : S384x384.Idx) := by after_reads_at
/-- The offset weight transposed. -/
theorem host1_v4 (e d : Fin 384) :
    StableHlo.after hostOps1 W (Proc.devRef .tc main_call0_v4) (ix2 e d : S384x384.Idx)
      = W (Proc.devRef .tc main_arg5) (ix2 d e : S384x384.Idx) := by after_reads_at

/-- The queries with batch and point apart. -/
theorem host2_v6 (b : Fin 8) (n : Fin 512) (e : Fin 384) :
    StableHlo.after hostOps2 W (Proc.devRef .tc main_call0_v6) (ix3 b n e : S8x512x384.Idx)
      = W (Proc.devRef .tc main_call0_v5_0) (ix2 (flat b n) e : S4096x384.Idx) := by
  unfold flat; after_reads_at
/-- The queries by halves of the columns. -/
theorem host2_v9 (b : Fin 8) (g : Fin 2) (n : Fin 512) (e : Fin 192) :
    StableHlo.after hostOps2 W (Proc.devRef .tc main_call0_v9) (ix4 b g n e : S8x2x512x192.Idx)
      = W (Proc.devRef .tc main_call0_v5_0) (ix2 (flat b n) (col g e) : S4096x384.Idx) := by
  after_reads_simp
  simp -implicitDefEqProofs only [StableHlo.TRef.toBuf, StableHlo.TRef.ofBuf, cast_cast, cast_eq]
  clean_types
  exact (halves_apply (shapeCast S8x512x384 (W (Proc.devRef .tc main_call0_v5_0)) shapeCasts_S4096x384_S8x512x384)
    shapeCasts_S8x512x384_S8x512x2x192 transposes_S8x512x2x192_S8x2x512x192_0_2_1_3 b g n e).trans
    (rows_apply (W (Proc.devRef .tc main_call0_v5_0)) shapeCasts_S4096x384_S8x512x384 b n (col g e))
/-- The offset values by halves of the columns. -/
theorem host2_v11 (b : Fin 8) (g : Fin 2) (n : Fin 512) (e : Fin 192) :
    StableHlo.after hostOps2 W (Proc.devRef .tc main_call0_v11) (ix4 b g n e : S8x2x512x192.Idx)
      = W (Proc.devRef .tc main_call0_v5_1) (ix2 (flat b n) (col g e) : S4096x384.Idx) := by
  after_reads_simp
  simp -implicitDefEqProofs only [StableHlo.TRef.toBuf, StableHlo.TRef.ofBuf, cast_cast, cast_eq]
  clean_types
  exact (halves_apply (shapeCast S8x512x384 (W (Proc.devRef .tc main_call0_v5_1)) shapeCasts_S4096x384_S8x512x384)
    shapeCasts_S8x512x384_S8x512x2x192 transposes_S8x512x2x192_S8x2x512x192_0_2_1_3 b g n e).trans
    (rows_apply (W (Proc.devRef .tc main_call0_v5_1)) shapeCasts_S4096x384_S8x512x384 b n (col g e))
/-- The features by halves of the columns. -/
theorem host2_v13 (b : Fin 8) (g : Fin 2) (n : Fin 512) (e : Fin 192) :
    StableHlo.after hostOps2 W (Proc.devRef .tc main_call0_v13) (ix4 b g n e : S8x2x512x192.Idx)
      = W (Proc.devRef .tc main_arg0) (ix3 b n (col g e) : S8x512x384.Idx) := by
  rw [col_eq]; after_reads_at
/-- The first weight transposed. -/
theorem host2_v14 (e d : Fin 384) :
    StableHlo.after hostOps2 W (Proc.devRef .tc main_call0_v14) (ix2 e d : S384x384.Idx)
      = W (Proc.devRef .tc main_arg6) (ix2 d e : S384x384.Idx) := by after_reads_at
/-- The first bias as a row. -/
theorem host2_v15 (d : Fin 384) :
    StableHlo.after hostOps2 W (Proc.devRef .tc main_call0_v15) (ix2 0 d : S1x384.Idx)
      = W (Proc.devRef .tc main_arg7) (ix1 d : S384.Idx) := by after_reads_at
/-- The scale as a row. -/
theorem host2_v16 (d : Fin 384) :
    StableHlo.after hostOps2 W (Proc.devRef .tc main_call0_v16) (ix2 0 d : S1x384.Idx)
      = W (Proc.devRef .tc main_arg8) (ix1 d : S384.Idx) := by after_reads_at
/-- The shift as a row. -/
theorem host2_v17 (d : Fin 384) :
    StableHlo.after hostOps2 W (Proc.devRef .tc main_call0_v17) (ix2 0 d : S1x384.Idx)
      = W (Proc.devRef .tc main_arg9) (ix1 d : S384.Idx) := by after_reads_at
/-- The second weight transposed. -/
theorem host2_v18 (d : Fin 384) (x : Fin 3) :
    StableHlo.after hostOps2 W (Proc.devRef .tc main_call0_v18) (ix2 d x : S384x3.Idx)
      = W (Proc.devRef .tc main_arg10) (ix2 x d : S3x384.Idx) := by after_reads_at

/-- The key weight transposed. -/
theorem host3_v20 (e d : Fin 384) :
    StableHlo.after hostOps3 W (Proc.devRef .tc main_call0_v20) (ix2 e d : S384x384.Idx)
      = W (Proc.devRef .tc main_arg3) (ix2 d e : S384x384.Idx) := by after_reads_at
/-- The value weight transposed. -/
theorem host3_v21 (e d : Fin 384) :
    StableHlo.after hostOps3 W (Proc.devRef .tc main_call0_v21) (ix2 e d : S384x384.Idx)
      = W (Proc.devRef .tc main_arg4) (ix2 d e : S384x384.Idx) := by after_reads_at
/-- The last weight transposed. -/
theorem host3_v22 (e d : Fin 384) :
    StableHlo.after hostOps3 W (Proc.devRef .tc main_call0_v22) (ix2 e d : S384x384.Idx)
      = W (Proc.devRef .tc main_arg11) (ix2 d e : S384x384.Idx) := by after_reads_at
/-- The last bias as a row. -/
theorem host3_v23 (d : Fin 384) :
    StableHlo.after hostOps3 W (Proc.devRef .tc main_call0_v23) (ix2 0 d : S1x384.Idx)
      = W (Proc.devRef .tc main_arg12) (ix1 d : S384.Idx) := by after_reads_at

end Cert.Proof

end
-- ==== Proof.Spec.lean ====
/- The kernel's result as plain mathematics over the argument arrays: projections, the ten nearest points, the sampled
   positions' interpolated features and the attention row over them. -/
module

public import proofs.«01_k».proof.Proof.Region0
public import proofs.«01_k».proof.Proof.Array2
public import proofs.«01_k».proof.Proof.Array3
public import proofs.«01_k».proof.Proof.HostValues

@[expose] public section

noncomputable section

namespace Cert.Proof

open Idealize.ShloMosaic

/-- A projection of every point by a matrix stored with its outputs first. -/
def proj (X : Fin 8 → Fin 512 → Fin 384 → EReal) (A : Fin 384 → Fin 384 → EReal) (b : Fin 8) (n : Fin 512) (d : Fin 384) :
    EReal := ∑ e, X b n e * A d e

/-- The `k`-th nearest point of point `n`. -/
def knn (P : Fin 512 → Fin 3 → ℝ) (n : Fin 512) (k : Fin 10) : Fin 512 := nearest (dist0 (fun n x => (P n x : EReal)) n) k

/-- The half of the columns that a column lies in. -/
def half (e : Fin 384) : Fin 2 := ⟨e / 192, by omega⟩

/-- A column's place in its half. -/
def lane (e : Fin 384) : Fin 192 := ⟨e % 192, by omega⟩

/-- The half of a column of a half. -/
theorem half_col (g : Fin 2) (e : Fin 192) : half (col g e) = g :=
  Fin.ext (by show (192 * g.val + e.val) / 192 = g.val; omega)
/-- The place of a column of a half. -/
theorem lane_col (g : Fin 2) (e : Fin 192) : lane (col g e) = e :=
  Fin.ext (by show (192 * g.val + e.val) % 192 = e.val; omega)

section
variable (X : Fin 8 → Fin 512 → Fin 384 → EReal) (P : Fin 8 → Fin 512 → Fin 3 → ℝ) (Wq Wk Wv Wo W1 : Fin 384 → Fin 384 → EReal)
  (b1 γ β : Fin 384 → EReal) (W2 : Fin 3 → Fin 384 → EReal) (Wp : Fin 384 → Fin 384 → EReal) (bp : Fin 384 → EReal)

/-- The interpolated feature of column `c` of half `g`. -/
def feature (b : Fin 8) (g : Fin 2) (n : Fin 512) (k : Fin 10) (c : Fin 192) : EReal :=
  interpRow (fun n c => proj X Wq b n (col g c)) (fun n c => proj X Wo b n (col g c)) (fun n c => X b n (col g c)) (P b)
    (knn (P b)) (fun e d => W1 d e) b1 γ β (fun d x => W2 x d) n k c

/-- The result: the attention row of point `n` over its ten neighbours. -/
def result (b : Fin 8) (n : Fin 512) (d : Fin 384) : EReal :=
  attnRow (fun k e => proj X Wq b (knn (P b) n k) e)
    (fun k d => ∑ e, feature X P Wq Wo W1 b1 γ β W2 b (half e) n k (lane e) * Wk d e)
    (fun k d => ∑ e, feature X P Wq Wo W1 b1 γ β W2 b (half e) n k (lane e) * Wv d e)
    (fun e d => Wp d e) bp d

end

end Cert.Proof

end
-- ==== Proof.Region1.lean ====
/- The second kernel call: the query and offset projections of the flattened points, 1024 rows at a time. -/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.Proof

open Idealize.ShloMosaic Idealize.ShloMosaic.TcCoe Cert.KernelIdeal Cert.KernelIdeal.Gen

variable (V : (c : Dev nD) → (b : Ref sig .tc) → Buf (Elt Ideal) ((c : Thread nD τ).loc b))

/-- The zero offsets of a matrix. -/
theorem hzz2 : (![0, 0] : Fin 2 → Nat) = fun _ => 0 := funext fun a => by fin_cases a <;> rfl

/-- Reading the whole block gives the block. -/
theorem ld1_0 (x : Vec Ideal S1024x384 .f32) : View.ld x r1_0 = x := by unfold r1_0; exact View.ld_unit_zero hzz2 _ x
/-- Reading the whole block gives the block. -/
theorem ld1_1 (x : Vec Ideal S384x384 .f32) : View.ld x r1_1 = x := by unfold r1_1; exact View.ld_unit_zero hzz2 _ x

/-- The first result's block is one matrix product. -/
theorem out1_3_apply (x0 : Vec Ideal S1024x384 .f32) (x1 x2 : Vec Ideal S384x384 .f32) (r : Fin 1024) (d : Fin 384) :
    out1_3 x0 x1 x2 (ix2 r d) = ∑ e : Fin 384, x0 (ix2 r e) * x1 (ix2 e d) := by
  unfold out1_3
  rw [ld1_0, ld1_1]; unfold r1_0; rw [View.canon_unit_zero hzz2]
  pointwise [k1_pay2, k1_pay1]

/-- The second result's block is one matrix product. -/
theorem out1_4_apply (x0 : Vec Ideal S1024x384 .f32) (x1 x2 : Vec Ideal S384x384 .f32) (r : Fin 1024) (d : Fin 384) :
    out1_4 x0 x1 x2 (ix2 r d) = ∑ e : Fin 384, x0 (ix2 r e) * x2 (ix2 e d) := by
  unfold out1_4
  rw [ld1_0, ld1_1]; unfold r1_0; rw [View.canon_unit_zero hzz2]
  pointwise [k1_pay3, k1_pay1]

/-- Where the second call's blocks of the features lie. -/
theorem idx1_0 : ∀ t : Fin cfg1.N, win1_0.index t (0 : Fin 2) = t.val ∧ win1_0.index t (1 : Fin 2) = 0 :=
  (by decide +kernel : ∀ t : Fin grid1.N, _)
/-- Where the second call's blocks of the first weight lie. -/
theorem idx1_1 : ∀ t : Fin cfg1.N, win1_1.index t (0 : Fin 2) = 0 ∧ win1_1.index t (1 : Fin 2) = 0 :=
  (by decide +kernel : ∀ t : Fin grid1.N, _)
/-- Where the second call's blocks of the second weight lie. -/
theorem idx1_2 : ∀ t : Fin cfg1.N, win1_2.index t (0 : Fin 2) = 0 ∧ win1_2.index t (1 : Fin 2) = 0 :=
  (by decide +kernel : ∀ t : Fin grid1.N, _)
/-- Where the second call's blocks of the first product lie. -/
theorem idx1_3 : ∀ t : Fin cfg1.N, win1_3.index t (0 : Fin 2) = t.val ∧ win1_3.index t (1 : Fin 2) = 0 :=
  (by decide +kernel : ∀ t : Fin grid1.N, _)
/-- Where the second call's blocks of the second product lie. -/
theorem idx1_4 : ∀ t : Fin cfg1.N, win1_4.index t (0 : Fin 2) = t.val ∧ win1_4.index t (1 : Fin 2) = 0 :=
  (by decide +kernel : ∀ t : Fin grid1.N, _)

/-- Row `r` of the `i`-th thousand and twenty-four. -/
def row1 (i : Fin 4) (r : Fin 1024) : Fin 4096 := ⟨i * 1024 + r, by omega⟩

/-- The grid's `i`-th point. -/
def pt1 (i : Fin 4) : Fin cfg1.N := ⟨i, by rw [show cfg1.N = 4 from N_1]; exact i.2⟩

/-- The place in the array of an entry of the second call's block of the features. -/
theorem emb1_0 (i : Fin 4) (r : Fin 1024) (e : Fin 384) :
    ((cfg1.win 0).blk (pt1 i)).view.emb (ix2 r e) = (ix2 (row1 i r) e : S4096x384.Idx) := by
  have h := idx1_0 (pt1 i)
  have hv : (pt1 i).val = i.val := rfl
  funext a; apply Fin.ext
  match a with
  | ⟨0, _⟩ => show win1_0.index (pt1 i) (0 : Fin 2) * 1024 + 1 * r.val = i.val * 1024 + r.val; omega
  | ⟨1, _⟩ => show win1_0.index (pt1 i) (1 : Fin 2) * 384 + 1 * e.val = e.val; omega
/-- The place in the array of an entry of the second call's block of the first weight. -/
theorem emb1_1 (i : Fin 4) (d e : Fin 384) :
    ((cfg1.win 1).blk (pt1 i)).view.emb (ix2 d e) = (ix2 d e : S384x384.Idx) := by
  have h := idx1_1 (pt1 i)
  funext a; apply Fin.ext
  match a with
  | ⟨0, _⟩ => show win1_1.index (pt1 i) (0 : Fin 2) * 384 + 1 * d.val = d.val; omega
  | ⟨1, _⟩ => show win1_1.index (pt1 i) (1 : Fin 2) * 384 + 1 * e.val = e.val; omega
/-- The place in the array of an entry of the second call's block of the second weight. -/
theorem emb1_2 (i : Fin 4) (d e : Fin 384) :
    ((cfg1.win 2).blk (pt1 i)).view.emb (ix2 d e) = (ix2 d e : S384x384.Idx) := by
  have h := idx1_2 (pt1 i)
  funext a; apply Fin.ext
  match a with
  | ⟨0, _⟩ => show win1_2.index (pt1 i) (0 : Fin 2) * 384 + 1 * d.val = d.val; omega
  | ⟨1, _⟩ => show win1_2.index (pt1 i) (1 : Fin 2) * 384 + 1 * e.val = e.val; omega
/-- The place in the array of an entry of the second call's block of the first product. -/
theorem emb1_3 (i : Fin 4) (r : Fin 1024) (e : Fin 384) :
    ((cfg1.win 3).blk (pt1 i)).view.emb (ix2 r e) = (ix2 (row1 i r) e : S4096x384.Idx) := by
  have h := idx1_3 (pt1 i)
  have hv : (pt1 i).val = i.val := rfl
  funext a; apply Fin.ext
  match a with
  | ⟨0, _⟩ => show win1_3.index (pt1 i) (0 : Fin 2) * 1024 + 1 * r.val = i.val * 1024 + r.val; omega
  | ⟨1, _⟩ => show win1_3.index (pt1 i) (1 : Fin 2) * 384 + 1 * e.val = e.val; omega
/-- The place in the array of an entry of the second call's block of the second product. -/
theorem emb1_4 (i : Fin 4) (r : Fin 1024) (e : Fin 384) :
    ((cfg1.win 4).blk (pt1 i)).view.emb (ix2 r e) = (ix2 (row1 i r) e : S4096x384.Idx) := by
  have h := idx1_4 (pt1 i)
  have hv : (pt1 i).val = i.val := rfl
  funext a; apply Fin.ext
  match a with
  | ⟨0, _⟩ => show win1_4.index (pt1 i) (0 : Fin 2) * 1024 + 1 * r.val = i.val * 1024 + r.val; omega
  | ⟨1, _⟩ => show win1_4.index (pt1 i) (1 : Fin 2) * 384 + 1 * e.val = e.val; omega

/-- An entry of the second call's block of the features. -/
theorem iblk1_0 (c : Dev nD) (i : Fin 4) (r : Fin 1024) (e : Fin 384) :
    iblk1 V c 0 (pt1 i) (ix2 r e) = V c main_call0_v2 (ix2 (row1 i r) e : S4096x384.Idx) := by
  unfold iblk1; rw [View.read_apply, emb1_0]; rfl
/-- An entry of the second call's block of the first weight. -/
theorem iblk1_1 (c : Dev nD) (i : Fin 4) (d e : Fin 384) :
    iblk1 V c 1 (pt1 i) (ix2 d e) = V c main_call0_v3 (ix2 d e : S384x384.Idx) := by
  unfold iblk1; rw [View.read_apply, emb1_1]; rfl
/-- An entry of the second call's block of the second weight. -/
theorem iblk1_2 (c : Dev nD) (i : Fin 4) (d e : Fin 384) :
    iblk1 V c 2 (pt1 i) (ix2 d e) = V c main_call0_v4 (ix2 d e : S384x384.Idx) := by
  unfold iblk1; rw [View.read_apply, emb1_2]; rfl

/-- The first result array: every flattened point through the first weight. -/
theorem arr1_3 (c : Dev nD) (X : Fin 4096 → Fin 384 → EReal) (A : Fin 384 → Fin 384 → EReal)
    (h0 : ∀ n e, V c main_call0_v2 (ix2 n e : S4096x384.Idx) = X n e)
    (h1 : ∀ e d, V c main_call0_v3 (ix2 e d : S384x384.Idx) = A e d) (n : Fin 4096) (d : Fin 384) :
    (dat1 V c).arrAt 3 cfg1.N (ix2 n d : S4096x384.Idx) = ∑ e, X n e * A e d := by
  have h := (dat1 V c).arrAt_eq_of_cover 3
    (fun i : S4096x384.Idx => ((∑ e, X (i 0) e * A e (i 1) : EReal)))
    (fun t _ => by
      obtain ⟨i, rfl⟩ : ∃ i, t = pt1 i := ⟨⟨t, t.2.trans_eq N_1⟩, rfl⟩
      show (cfg1.win 3).cut (grid1.coords _) ((dat1 V c).after 3 _) = _
      rw [after1_3]
      funext j
      show out1_3 _ _ _ j = _
      obtain ⟨r, d, rfl⟩ : ∃ (r : Fin 1024) (d : Fin 384), j = ix2 r d := ⟨_, _, eq_ix2 j⟩
      rw [View.read_apply, emb1_3, out1_3_apply]
      refine Finset.sum_congr rfl fun e _ => ?_
      rw [iblk1_0, iblk1_1, h0, h1]
      rfl)
    (fun i => by
      obtain ⟨n, d, rfl⟩ : ∃ (n : Fin 4096) (d : Fin 384), i = (ix2 n d : S4096x384.Idx) := ⟨_, _, eq_ix2 i⟩
      have h := ((cfg1.win 3).blk (pt1 ⟨n / 1024, by omega⟩)).view.emb_mem_set (ix2 (⟨n % 1024, by omega⟩ : Fin 1024) d)
      rw [emb1_3] at h
      rw [show row1 ⟨n / 1024, by omega⟩ ⟨n % 1024, by omega⟩ = n from Fin.ext (Nat.div_add_mod' _ _)] at h
      exact ⟨pt1 _, flush1_3 _, h⟩)
  rw [h]
  rfl

/-- The second result array: every flattened point through the second weight. -/
theorem arr1_4 (c : Dev nD) (X : Fin 4096 → Fin 384 → EReal) (A : Fin 384 → Fin 384 → EReal)
    (h0 : ∀ n e, V c main_call0_v2 (ix2 n e : S4096x384.Idx) = X n e)
    (h1 : ∀ e d, V c main_call0_v4 (ix2 e d : S384x384.Idx) = A e d) (n : Fin 4096) (d : Fin 384) :
    (dat1 V c).arrAt 4 cfg1.N (ix2 n d : S4096x384.Idx) = ∑ e, X n e * A e d := by
  have h := (dat1 V c).arrAt_eq_of_cover 4
    (fun i : S4096x384.Idx => ((∑ e, X (i 0) e * A e (i 1) : EReal)))
    (fun t _ => by
      obtain ⟨i, rfl⟩ : ∃ i, t = pt1 i := ⟨⟨t, t.2.trans_eq N_1⟩, rfl⟩
      show (cfg1.win 4).cut (grid1.coords _) ((dat1 V c).after 4 _) = _
      rw [after1_4]
      funext j
      show out1_4 _ _ _ j = _
      obtain ⟨r, d, rfl⟩ : ∃ (r : Fin 1024) (d : Fin 384), j = ix2 r d := ⟨_, _, eq_ix2 j⟩
      rw [View.read_apply, emb1_4, out1_4_apply]
      refine Finset.sum_congr rfl fun e _ => ?_
      rw [iblk1_0, iblk1_2, h0, h1]
      rfl)
    (fun i => by
      obtain ⟨n, d, rfl⟩ : ∃ (n : Fin 4096) (d : Fin 384), i = (ix2 n d : S4096x384.Idx) := ⟨_, _, eq_ix2 i⟩
      have h := ((cfg1.win 4).blk (pt1 ⟨n / 1024, by omega⟩)).view.emb_mem_set (ix2 (⟨n % 1024, by omega⟩ : Fin 1024) d)
      rw [emb1_4] at h
      rw [show row1 ⟨n / 1024, by omega⟩ ⟨n % 1024, by omega⟩ = n from Fin.ext (Nat.div_add_mod' _ _)] at h
      exact ⟨pt1 _, flush1_4 _, h⟩)
  rw [h]
  rfl

end Cert.Proof

end
-- ==== Proof.KernelValue.lean ====
/- The kernel's result array is `result` of its arguments: the four calls' arrays and the host operations between them,
   put together. -/
module

public import proofs.«01_k».proof.Proof.Spec
public import proofs.«01_k».proof.Proof.Region1

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ) (ρ : Dev nD → PrngReg) (c : Dev nD)
  (X : Fin 8 → Fin 512 → Fin 384 → EReal) (P : Fin 8 → Fin 512 → Fin 3 → ℝ) (Wq Wk Wv Wo Wa : Fin 384 → Fin 384 → EReal)
  (b1 γ β : Fin 384 → EReal) (Wb : Fin 3 → Fin 384 → EReal) (Wp : Fin 384 → Fin 384 → EReal) (bp : Fin 384 → EReal)
  (hX : ∀ b n e, m ((c : Thread nD τ).loc main_arg0) (ix3 b n e : S8x512x384.Idx) = X b n e)
  (hP : ∀ b n x, m ((c : Thread nD τ).loc main_arg1) (ix3 b n x : S8x512x3.Idx) = (P b n x : EReal))
  (hq : ∀ d e, m ((c : Thread nD τ).loc main_arg2) (ix2 d e : S384x384.Idx) = Wq d e)
  (hk : ∀ d e, m ((c : Thread nD τ).loc main_arg3) (ix2 d e : S384x384.Idx) = Wk d e)
  (hv : ∀ d e, m ((c : Thread nD τ).loc main_arg4) (ix2 d e : S384x384.Idx) = Wv d e)
  (ho : ∀ d e, m ((c : Thread nD τ).loc main_arg5) (ix2 d e : S384x384.Idx) = Wo d e)
  (h1 : ∀ d e, m ((c : Thread nD τ).loc main_arg6) (ix2 d e : S384x384.Idx) = Wa d e)
  (hb1 : ∀ d, m ((c : Thread nD τ).loc main_arg7) (ix1 d : S384.Idx) = b1 d)
  (hγ : ∀ d, m ((c : Thread nD τ).loc main_arg8) (ix1 d : S384.Idx) = γ d)
  (hβ : ∀ d, m ((c : Thread nD τ).loc main_arg9) (ix1 d : S384.Idx) = β d)
  (h2 : ∀ x d, m ((c : Thread nD τ).loc main_arg10) (ix2 x d : S3x384.Idx) = Wb x d)
  (hp : ∀ d e, m ((c : Thread nD τ).loc main_arg11) (ix2 d e : S384x384.Idx) = Wp d e)
  (hbp : ∀ d, m ((c : Thread nD τ).loc main_arg12) (ix1 d : S384.Idx) = bp d)

/-! ## The first call -/

/-- The first call reads the positions as launched. -/
theorem v1_arg1 : V1 m ρ c main_arg1 = m ((c : Thread nD τ).loc main_arg1) := W1_args m ρ c main_arg1 (by decide)

include hP in
/-- The first call reads the positions transposed. -/
theorem v1_v0 (b : Fin 8) (k : Fin 3) (n : Fin 512) : V1 m ρ c main_call0_v0 (ix3 b k n : S8x3x512.Idx) = (P b n k : EReal) :=
  (host0_v0 (W0 m ρ c) b k n).trans (hP b n k)

include hP in
/-- The indices the first call leaves. -/
theorem w2_v1 (b : Fin 8) (n : Fin 512) (k : Fin 10) :
    W2 m ρ c (Proc.devRef .tc main_call0_v1) (ix3 b n k : S8x512x10.Idx) = BitVec.ofNat 32 (knn (P b) n k) :=
  (congrFun (W2_arr m ρ c 2) _).trans
    (arr0_2 (V1 m ρ) c (fun b n x => (P b n x : EReal)) (fun b n k => (congrFun (v1_arg1 m ρ c) _).trans (hP b n k))
      (fun b k n => v1_v0 m ρ c P hP b k n) b n k)

/-! ## The second call -/

include hX in
/-- The second call reads the features. -/
theorem v3_v2 (b : Fin 8) (n : Fin 512) (e : Fin 384) :
    V3 m ρ c main_call0_v2 (ix2 (flat b n) e : S4096x384.Idx) = X b n e :=
  (host1_v2 (W2 m ρ c) b n e).trans ((congrFun (W2_args m ρ c main_arg0 (by decide)) _).trans (hX b n e))
include hq in
/-- The second call reads the query weight transposed. -/
theorem v3_v3 (e d : Fin 384) : V3 m ρ c main_call0_v3 (ix2 e d : S384x384.Idx) = Wq d e :=
  (host1_v3 (W2 m ρ c) e d).trans ((congrFun (W2_args m ρ c main_arg2 (by decide)) _).trans (hq d e))
include ho in
/-- The second call reads the offset weight transposed. -/
theorem v3_v4 (e d : Fin 384) : V3 m ρ c main_call0_v4 (ix2 e d : S384x384.Idx) = Wo d e :=
  (host1_v4 (W2 m ρ c) e d).trans ((congrFun (W2_args m ρ c main_arg5 (by decide)) _).trans (ho d e))

/-- The batch of a flattened row. -/
def batch (r : Fin 4096) : Fin 8 := ⟨r / 512, by omega⟩
/-- The point of a flattened row. -/
def point (r : Fin 4096) : Fin 512 := ⟨r % 512, by omega⟩

/-- Every row is of some batch and point. -/
theorem exists_flat (r : Fin 4096) : ∃ b n, r = flat b n := ⟨batch r, point r, Fin.ext (Nat.div_add_mod' _ _).symm⟩
/-- The batch of the row of a batch and point. -/
theorem batch_flat (b : Fin 8) (n : Fin 512) : batch (flat b n) = b :=
  Fin.ext (by show (b.val * 512 + n.val) / 512 = b.val; omega)
/-- The point of the row of a batch and point. -/
theorem point_flat (b : Fin 8) (n : Fin 512) : point (flat b n) = n :=
  Fin.ext (by show (b.val * 512 + n.val) % 512 = n.val; omega)

include hX in
/-- The second call reads the features, of any row. -/
theorem v3_v2' (r : Fin 4096) (e : Fin 384) :
    V3 m ρ c main_call0_v2 (ix2 r e : S4096x384.Idx) = X (batch r) (point r) e := by
  obtain ⟨b, n, rfl⟩ := exists_flat r
  rw [batch_flat, point_flat]
  exact v3_v2 m ρ c X hX b n e

include hX hq in
/-- The queries. -/
theorem w4_q (b : Fin 8) (n : Fin 512) (d : Fin 384) :
    W4 m ρ c (Proc.devRef .tc main_call0_v5_0) (ix2 (flat b n) d : S4096x384.Idx) = proj X Wq b n d := by
  refine (congrFun (W4_arr m ρ c 3) _).trans ((arr1_3 (V3 m ρ) c _ _ (v3_v2' m ρ c X hX) (v3_v3 m ρ c Wq hq) (flat b n) d).trans ?_)
  rw [batch_flat, point_flat]
  rfl

include hX ho in
/-- The offset features. -/
theorem w4_o (b : Fin 8) (n : Fin 512) (d : Fin 384) :
    W4 m ρ c (Proc.devRef .tc main_call0_v5_1) (ix2 (flat b n) d : S4096x384.Idx) = proj X Wo b n d := by
  refine (congrFun (W4_arr m ρ c 4) _).trans ((arr1_4 (V3 m ρ) c _ _ (v3_v2' m ρ c X hX) (v3_v4 m ρ c Wo ho) (flat b n) d).trans ?_)
  rw [batch_flat, point_flat]
  rfl

/-! ## The third call -/

include hP in
/-- The third call reads the indices that the first call left. -/
theorem v5_v1 (b : Fin 8) (n : Fin 512) (k : Fin 10) :
    V5 m ρ c main_call0_v1 (ix3 b n k : S8x512x10.Idx) = BitVec.ofNat 32 (knn (P b) n k) :=
  ((congrFun ((W5_of m ρ c main_call0_v1 (by decide)).trans ((W4_of m ρ c main_call0_v1 (by decide)).trans
    (W3_of m ρ c main_call0_v1 (by decide)))) _).trans (w2_v1 m ρ c P hP b n k))

include hP in
/-- The third call reads the positions transposed. -/
theorem v5_v0 (b : Fin 8) (x : Fin 3) (n : Fin 512) :
    V5 m ρ c main_call0_v0 (ix3 b x n : S8x3x512.Idx) = (P b n x : EReal) :=
  ((congrFun ((W5_of m ρ c main_call0_v0 (by decide)).trans ((W4_of m ρ c main_call0_v0 (by decide)).trans
    ((W3_of m ρ c main_call0_v0 (by decide)).trans (W2_of m ρ c main_call0_v0 (by decide))))) _).trans
    (v1_v0 m ρ c P hP b x n))

include hX hP hq ho h1 hb1 hγ hβ h2 in
/-- The interpolated features the third call leaves. -/
theorem w6_v19 (hfin : ∀ b n d, proj X Wo b n d - proj X Wo b n d = 0) (b : Fin 8) (g : Fin 2) (t : Fin 4) (k : Fin 10)
    (j : Fin 128) (e : Fin 192) :
    W6 m ρ c (Proc.devRef .tc main_call0_v19) (ix4 b g (tileRow t (nrow k j)) e : S8x2x5120x192.Idx)
      = feature X P Wq Wo Wa b1 γ β Wb b g (tilePt t j) k e :=
  (congrFun (W6_arr m ρ c 11) _).trans
    (arr2_11 (V5 m ρ) c (fun b g n e => proj X Wq b n (col g e)) (fun b g n e => proj X Wo b n (col g e))
      (fun b g n e => X b n (col g e)) P (fun b => knn (P b)) (fun e d => Wa d e) b1 γ β (fun d x => Wb x d)
      (v5_v1 m ρ c P hP)
      (fun b g n e => (host2_v9 (W4 m ρ c) b g n e).trans (w4_q m ρ c X Wq hX hq b n (col g e)))
      (fun b g n e => (host2_v11 (W4 m ρ c) b g n e).trans (w4_o m ρ c X Wo hX ho b n (col g e)))
      (fun b g n e => (host2_v13 (W4 m ρ c) b g n e).trans ((congrFun (W4_args m ρ c main_arg0 (by decide)) _).trans (hX b n _)))
      (fun b n x => (congrFun (W5_args m ρ c main_arg1 (by decide)) _).trans (hP b n x))
      (v5_v0 m ρ c P hP)
      (fun e d => (host2_v14 (W4 m ρ c) e d).trans ((congrFun (W4_args m ρ c main_arg6 (by decide)) _).trans (h1 d e)))
      (fun d => (host2_v15 (W4 m ρ c) d).trans ((congrFun (W4_args m ρ c main_arg7 (by decide)) _).trans (hb1 d)))
      (fun d => (host2_v16 (W4 m ρ c) d).trans ((congrFun (W4_args m ρ c main_arg8 (by decide)) _).trans (hγ d)))
      (fun d => (host2_v17 (W4 m ρ c) d).trans ((congrFun (W4_args m ρ c main_arg9 (by decide)) _).trans (hβ d)))
      (fun d x => (host2_v18 (W4 m ρ c) d x).trans ((congrFun (W4_args m ρ c main_arg10 (by decide)) _).trans (h2 x d)))
      (fun b g n e => hfin b n (col g e)) b g t k j e)

/-! ## The fourth call -/

include hX hP hq hk hv ho h1 hb1 hγ hβ h2 hp hbp in
/-- The result array the kernel leaves. -/
theorem kernel_result (hfin : ∀ b n d, proj X Wo b n d - proj X Wo b n d = 0) (b : Fin 8) (n : Fin 512) (d : Fin 384) :
    W8 m ρ c (Proc.devRef .tc main_v0) (ix3 b n d : S8x512x384.Idx)
      = result X P Wq Wk Wv Wo Wa b1 γ β Wb Wp bp b n d :=
  (congrFun (W8_arr m ρ c 7) _).trans
    (arr3_7 (V7 m ρ) c (fun b n k e => feature X P Wq Wo Wa b1 γ β Wb b (half e) n k (lane e)) (fun b => knn (P b))
      (proj X Wq) (fun e d => Wk d e) (fun e d => Wv d e) (fun e d => Wp d e) bp
      (fun b g t k j e => by
        refine (congrFun (W7_of m ρ c main_call0_v19 (by decide)) _).trans
          ((w6_v19 m ρ c X P Wq Wo Wa b1 γ β Wb hX hP hq ho h1 hb1 hγ hβ h2 hfin b g t k j e).trans ?_)
        show _ = feature X P Wq Wo Wa b1 γ β Wb b (half (col g e)) (tilePt t j) k (lane (col g e))
        rw [half_col, lane_col])
      (fun b n k => (congrFun ((W7_of m ρ c main_call0_v1 (by decide)).trans (W6_of m ρ c main_call0_v1 (by decide))) _).trans
        (v5_v1 m ρ c P hP b n k))
      (fun b n e => (congrFun ((W7_of m ρ c main_call0_v6 (by decide)).trans (W6_of m ρ c main_call0_v6 (by decide))) _).trans
        ((host2_v6 (W4 m ρ c) b n e).trans (w4_q m ρ c X Wq hX hq b n e)))
      (fun e d => (host3_v20 (W6 m ρ c) e d).trans ((congrFun (W6_args m ρ c main_arg3 (by decide)) _).trans (hk d e)))
      (fun e d => (host3_v21 (W6 m ρ c) e d).trans ((congrFun (W6_args m ρ c main_arg4 (by decide)) _).trans (hv d e)))
      (fun e d => (host3_v22 (W6 m ρ c) e d).trans ((congrFun (W6_args m ρ c main_arg11 (by decide)) _).trans (hp d e)))
      (fun d => (host3_v23 (W6 m ρ c) d).trans ((congrFun (W6_args m ρ c main_arg12 (by decide)) _).trans (hbp d)))
      b n d)

end Cert.Proof

end
-- ==== Proof.RefOps.lean ====
/- Two host operations of the reference read at an index: a gather of rows by pairs of indices, and the `k` greatest of
   negated values, which are the nearest ones in order. -/
module

public import proofs.«01_k».proof.Proof.FirstMin
public import Idealize.ShloMosaic.Lib.ValueIdxCore
public import Idealize.ShloMosaic.Lib.Pointwise

@[expose] public section

noncomputable section

namespace Cert.Proof

open Idealize.ShloMosaic

/-- The dimension numbers of a gather of whole rows `[p, q, :]` of an operand `[A, N, D]` by pairs `(p, q)`. -/
abbrev pairDims (A N D A' B K : ℕ)
    (wf : GatherDims.WF ⟨3, ![A, N, D]⟩ ⟨4, ![A', B, K, 2]⟩ ⟨4, ![A', B, K, D]⟩ [3] [0, 1] [] [0, 1] [] 3 ![1, 1, D]) :
    GatherDims ⟨3, ![A, N, D]⟩ ⟨4, ![A', B, K, 2]⟩ ⟨4, ![A', B, K, D]⟩ where
  offsetDims := [3]
  collapsedSliceDims := [0, 1]
  operandBatchingDims := []
  startIndicesBatchingDims := []
  startIndexMap := [0, 1]
  indexVectorDim := 3
  sliceSizes := ![1, 1, D]
  wf := wf

/-- A small word read signed. -/
theorem toInt_small {i : ℕ} (h : i < 512) : (BitVec.ofNat 32 i).toInt.toNat = i := by
  rw [BitVec.toInt_eq_toNat_of_lt (by rw [BitVec.toNat_ofNat]; omega), BitVec.toNat_ofNat]
  omega

/-- The gather of row `[p, q, :]`, the indices in range. -/
theorem gather_pair {α : Type} {A N D A' B K : ℕ}
    (wf : GatherDims.WF ⟨3, ![A, N, D]⟩ ⟨4, ![A', B, K, 2]⟩ ⟨4, ![A', B, K, D]⟩ [3] [0, 1] [] [0, 1] [] 3 ![1, 1, D])
    (x : (⟨3, ![A, N, D]⟩ : Shape).Idx → α) (idx : IVec ⟨4, ![A', B, K, 2]⟩ 32) (hA : A ≤ 512) (hN : N ≤ 512)
    (a : Fin A') (b : Fin B) (k : Fin K) (e : Fin D) (p : Fin A) (q : Fin N)
    (h0 : idx (ix4 a b k 0) = BitVec.ofNat 32 p) (h1 : idx (ix4 a b k 1) = BitVec.ofNat 32 q) :
    Host.gather (pairDims A N D A' B K wf) x idx (ix4 a b k e) = x (ix3 p q e) := by
  unfold Host.gather
  refine congrArg x (funext fun i => Fin.ext ?_)
  show (pairDims A N D A' B K wf).start (ix4 a b k e) idx i + (pairDims A N D A' B K wf).batchCoord (ix4 a b k e) i
      + (pairDims A N D A' B K wf).offCoord (ix4 a b k e) i = _
  rw [GatherDims.batchCoord_eq_zero _ _ _ List.not_mem_nil, Nat.add_zero]
  match i with
  | ⟨0, _⟩ =>
    rw [GatherDims.offCoord_eq_zero _ _ _ (fun h => ((GatherDims.mem_sKept _ _).mp h).1 (by simp)), Nat.add_zero]
    unfold GatherDims.start
    rw [dif_pos (by simp)]
    have hsi : (pairDims A N D A' B K wf).siIdx (ix4 a b k e) ⟨List.idxOf (0 : Fin 3) (pairDims A N D A' B K wf).startIndexMap,
        List.idxOf_lt_length_iff.2 (by simp)⟩ = ix4 a b k 0 := by
      funext c; refine Fin.ext ?_
      match c with
      | ⟨0, _⟩ => rfl
      | ⟨1, _⟩ => rfl
      | ⟨2, _⟩ => rfl
      | ⟨3, _⟩ => rfl
    refine (congrArg (fun w : BitVec 32 => min w.toInt.toNat (A - 1)) ((congrArg idx hsi).trans h0)).trans ?_
    show min (BitVec.ofNat 32 p.val).toInt.toNat (A - 1) = p.val
    rw [toInt_small (by omega)]
    omega
  | ⟨1, _⟩ =>
    rw [GatherDims.offCoord_eq_zero _ _ _ (fun h => ((GatherDims.mem_sKept _ _).mp h).1 (by simp)), Nat.add_zero]
    unfold GatherDims.start
    rw [dif_pos (by simp)]
    have hsi : (pairDims A N D A' B K wf).siIdx (ix4 a b k e) ⟨List.idxOf (1 : Fin 3) (pairDims A N D A' B K wf).startIndexMap,
        List.idxOf_lt_length_iff.2 (by simp)⟩ = ix4 a b k 1 := by
      funext c; refine Fin.ext ?_
      match c with
      | ⟨0, _⟩ => rfl
      | ⟨1, _⟩ => rfl
      | ⟨2, _⟩ => rfl
      | ⟨3, _⟩ => rfl
    refine (congrArg (fun w : BitVec 32 => min w.toInt.toNat (N - 1)) ((congrArg idx hsi).trans h1)).trans ?_
    show min (BitVec.ofNat 32 q.val).toInt.toNat (N - 1) = q.val
    rw [toInt_small (by omega)]
    omega
  | ⟨2, _⟩ =>
    unfold GatherDims.start
    rw [dif_neg (by simp), Nat.zero_add]
    unfold GatherDims.offCoord
    rw [dif_pos ((GatherDims.mem_sKept _ _).mpr ⟨by simp, by simp⟩)]
    rfl

section
variable {A B N K : ℕ} [NeZero N] (X : (⟨3, ![A, B, N]⟩ : Shape).Idx → EReal)
  (h : (⟨3, ![A, B, N]⟩ : Shape).Slices (fun _ => 0) ⟨3, ![A, B, K]⟩) (a : Fin A) (b : Fin B) (E : Fin N → EReal)

/-- The entries along the last axis. -/
theorem along_last (n m : Fin N) :
    Shape.Idx.along (s := ⟨3, ![A, B, N]⟩) (ix3 a b n) ⟨2, Nat.lt_succ_self 2⟩ m = ix3 a b m := by
  funext i
  unfold Shape.Idx.along
  match i with
  | ⟨0, _⟩ => exact Function.update_of_ne (fun h => by simp [Fin.ext_iff] at h) _ _
  | ⟨1, _⟩ => exact Function.update_of_ne (fun h => by simp [Fin.ext_iff] at h) _ _
  | ⟨2, _⟩ => exact Function.update_self _ _ _

/-- The order in which the greatest of negated values come. -/
theorem sorted_neg (hE : ∀ n, E n < ⊤) (hX : ∀ n, X (ix3 a b n) = -E n) (n : Fin N) :
    sortedFrom (fun k k' : Fin N => FloatOps.cmpfTotal (F := Ideal) (φ := .f32) .gt
      (X (Shape.Idx.along (s := ⟨3, ![A, B, N]⟩) (ix3 a b n) ⟨2, Nat.lt_succ_self 2⟩ k))
      (X (Shape.Idx.along (s := ⟨3, ![A, B, N]⟩) (ix3 a b n) ⟨2, Nat.lt_succ_self 2⟩ k')) == 1#1) n = nearest E n := by
  simp only [along_last, hX, gt_neg_iff]
  exact sortedFrom_eq_nearest E hE n

/-- The place of position `k` of the cut axis on the whole one. -/
def wide (hK : K ≤ N) (k : Fin K) : Fin N := ⟨k, by omega⟩

/-- The first `K` places of the last axis, read. -/
theorem first_apply {α : Type} (Y : (⟨3, ![A, B, N]⟩ : Shape).Idx → α) (hK : K ≤ N) (k : Fin K) :
    extractStridedSlice ⟨3, ![A, B, K]⟩ (fun _ => 0) Y h (ix3 a b k) = Y (ix3 a b (wide hK k)) := by
  unfold extractStridedSlice
  refine congrArg Y (funext fun i => Fin.ext ?_)
  match i with
  | ⟨0, _⟩ => exact Nat.zero_add _
  | ⟨1, _⟩ => exact Nat.zero_add _
  | ⟨2, _⟩ => exact Nat.zero_add _

/-- The values of the `K` greatest of negated values. -/
theorem topK_values (hK : K ≤ N) (hE : ∀ n, E n < ⊤) (hX : ∀ n, X (ix3 a b n) = -E n) (k : Fin K) :
    (Host.topK ⟨3, ![A, B, K]⟩ 2 (FloatOps.cmpfTotal (F := Ideal) (φ := .f32) .gt) X h).1 (ix3 a b k) = -E (nearest E k) := by
  unfold Host.topK
  dsimp only
  refine (first_apply h a b _ hK k).trans ?_
  unfold Host.sort2
  rw [dif_pos (Nat.lt_succ_self 2)]
  show X (Shape.Idx.along (s := ⟨3, ![A, B, N]⟩) (ix3 a b (wide hK k)) ⟨2, Nat.lt_succ_self 2⟩ (sortedFrom _ (wide hK k))) = _
  refine (congrArg X (along_last a b _ _)).trans ?_
  exact (hX _).trans (congrArg (fun n => -E n) (sorted_neg X a b E hE hX (wide hK k)))

/-- The positions of the `K` greatest of negated values. -/
theorem topK_indices (hK : K ≤ N) (hE : ∀ n, E n < ⊤) (hX : ∀ n, X (ix3 a b n) = -E n) (k : Fin K) :
    (Host.topK ⟨3, ![A, B, K]⟩ 2 (FloatOps.cmpfTotal (F := Ideal) (φ := .f32) .gt) X h).2 (ix3 a b k)
      = BitVec.ofNat 32 (nearest E k) := by
  unfold Host.topK
  dsimp only
  refine (first_apply h a b _ hK k).trans ?_
  unfold Host.sort2
  rw [dif_pos (Nat.lt_succ_self 2)]
  exact (congrArg (iotaInDim (⟨3, ![A, B, N]⟩ : Shape) 32 ⟨2, Nat.lt_succ_self 2⟩) (along_last a b _ _)).trans
    (congrArg (fun n : Fin N => BitVec.ofNat 32 n.val) (sorted_neg X a b E hE hX (wide hK k)))

end

end Cert.Proof

end
-- ==== Proof.RefNear.lean ====
/- The reference up to its neighbours: the distances of the points, the positions of the ten nearest, and the projected
   rows and the points gathered at them. -/
module

public import proofs.«01_k».proof.Proof.Gen.ReferenceIdeal.Read
public import proofs.«01_k».proof.Proof.RefOps
public import proofs.«01_k».proof.Proof.Spec
public import Idealize.ShloMosaic.Lib.Pointwise

@[expose] public section

set_option maxRecDepth 16384

noncomputable section

namespace Cert.Proof

open Idealize.ShloMosaic Idealize.ShloMosaic.TcCoe Cert.ReferenceIdeal Cert.ReferenceIdeal.Gen Cert.ReferenceIdeal.Read

/-- A small word is not negative, so the reference's wrap of negative indices keeps it. -/
theorem keep_word {i : ℕ} (h : i < 512) (c : BitVec 32) :
    Scalar.select (IntOp.cmpi CmpIPredicate.slt (BitVec.ofNat 32 i) 0#32) (IntOp.addi (BitVec.ofNat 32 i) c) (BitVec.ofNat 32 i)
      = BitVec.ofNat 32 i := by
  have hlt : (BitVec.ofNat 32 i).slt 0#32 = false := by
    rw [BitVec.slt, BitVec.toInt_eq_toNat_of_lt (by rw [BitVec.toNat_ofNat]; omega), BitVec.toNat_ofNat]
    simp only [BitVec.toInt_zero, decide_eq_false_iff_not, not_lt]
    omega
  simp [Scalar.select, IntOp.cmpi, hlt]

section
variable (x0 : (⟨S8x512x384, .f32⟩ : BufTy).Contents (Elt Ideal)) (x1 : (⟨S8x512x3, .f32⟩ : BufTy).Contents (Elt Ideal))
  (x2 x5 : (⟨S384x384, .f32⟩ : BufTy).Contents (Elt Ideal))
  (X : Fin 8 → Fin 512 → Fin 384 → EReal) (P : Fin 8 → Fin 512 → Fin 3 → ℝ) (Wq Wo : Fin 384 → Fin 384 → EReal)
  (hX : ∀ b n e, x0 (ix3 b n e) = X b n e) (hP : ∀ b n x, x1 (ix3 b n x) = P b n x)
  (hq : ∀ d e, x2 (ix2 d e) = Wq d e) (ho : ∀ d e, x5 (ix2 d e) = Wo d e)

include hP in
/-- The distances. -/
theorem ref_dist (b : Fin 8) (n m : Fin 512) :
    val_main_v12 (F := Ideal) x1 (ix3 b n m) = dist0 (fun n x => (P b n x : EReal)) n m := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, hP]
  unfold dist0
  simp [Fin.sum_univ_three, Ideal.ofBits_zero]

/-- Distances between real points are finite. -/
theorem dist0_lt_top (Q : Fin 512 → Fin 3 → ℝ) (n m : Fin 512) : dist0 (fun n x => (Q n x : EReal)) n m < ⊤ :=
  (dist2_coe (Q n) (Q m)).trans_lt (EReal.coe_lt_top _)

include hP in
/-- The positions of the neighbours. -/
theorem ref_indices (b : Fin 8) (n : Fin 512) (k : Fin 10) :
    val_main_indices (F := Ideal) x1 (ix3 b n k) = BitVec.ofNat 32 (knn (P b) n k) :=
  topK_indices _ _ _ _ (dist0 (fun n x => (P b n x : EReal)) n) (by decide) (fun m => dist0_lt_top (P b) n m)
    (fun m => (congrArg (fun y : EReal => -y) (ref_dist x1 P hP b n m))) k

/-- The batch of a pair of indices. -/
theorem ref_pair_fst (b : Fin 8) (n : Fin 512) (k : Fin 10) :
    val_main_v33 (F := Ideal) x1 (ix4 b n k 0) = BitVec.ofNat 32 b := by
  pointwise [val_main_v33, val_main_v32, val_main_v31, val_main_v30, val_main_v24, val_main_v23, val_main_v22, val_main_v21,
    val_main_v20, val_main_v15, val_main_v14, val_main_c, val_main_c_2]
  exact keep_word (by omega) _

include hP in
/-- The position of a pair of indices. -/
theorem ref_pair_snd (b : Fin 8) (n : Fin 512) (k : Fin 10) :
    val_main_v33 (F := Ideal) x1 (ix4 b n k 1) = BitVec.ofNat 32 (knn (P b) n k) := by
  have h := ref_indices x1 P hP
  pointwise [val_main_v33, val_main_v32, val_main_v31, val_main_v29, val_main_v28, val_main_v27, val_main_v26, val_main_v25,
    val_main_c_3, val_main_c_4, h]
  exact keep_word (knn (P b) n k).isLt _

/-- The pairs of indices of the second gather are those of the first. -/
theorem pairs_again : val_main_v90 (F := Ideal) x1 = val_main_v33 x1 := rfl
/-- The pairs of indices of the third gather are those of the first. -/
theorem pairs_third : val_main_v163 (F := Ideal) x1 = val_main_v33 x1 := rfl

include hX hq in
/-- The projected queries. -/
theorem ref_proj_q (b : Fin 8) (n : Fin 512) (d : Fin 384) :
    val_main_v17 (F := Ideal) x0 x2 (ix3 b n d) = proj X Wq b n d := by
  pointwise [val_main_v17, val_main_v16, hX, hq]
  rfl

include hX ho in
/-- The projected offset rows. -/
theorem ref_proj_o (b : Fin 8) (n : Fin 512) (d : Fin 384) :
    val_main_v19 (F := Ideal) x0 x5 (ix3 b n d) = proj X Wo b n d := by
  pointwise [val_main_v19, val_main_v18, hX, ho]
  rfl

include hX hP ho in
/-- The offset rows at the neighbours. -/
theorem ref_near_o (b : Fin 8) (n : Fin 512) (k : Fin 10) (d : Fin 384) :
    val_main_v34 (F := Ideal) x0 x1 x5 (ix4 b n k d) = proj X Wo b (knn (P b) n k) d :=
  (gather_pair gather_S8x512x384_S8x512x10x2_S8x512x10x384_3_01_n_n_01_3_11384.wf _ _ (by decide) (by decide) b n k d b
    (knn (P b) n k) (ref_pair_fst x1 b n k) (ref_pair_snd x1 P hP b n k)).trans (ref_proj_o x0 x5 X Wo hX ho b _ d)

include hX hP hq in
/-- The queries at the neighbours. -/
theorem ref_near_q (b : Fin 8) (n : Fin 512) (k : Fin 10) (d : Fin 384) :
    val_main_v164 (F := Ideal) x0 x1 x2 (ix4 b n k d) = proj X Wq b (knn (P b) n k) d :=
  (gather_pair gather_S8x512x384_S8x512x10x2_S8x512x10x384_3_01_n_n_01_3_11384.wf _ _ (by decide) (by decide) b n k d b
    (knn (P b) n k) (ref_pair_fst x1 b n k) (ref_pair_snd x1 P hP b n k)).trans (ref_proj_q x0 x2 X Wq hX hq b _ d)

include hP in
/-- The neighbours. -/
theorem ref_near_p (b : Fin 8) (n : Fin 512) (k : Fin 10) (x : Fin 3) :
    val_main_v91 (F := Ideal) x1 (ix4 b n k x) = P b (knn (P b) n k) x :=
  (gather_pair gather_S8x512x3_S8x512x10x2_S8x512x10x3_3_01_n_n_01_3_113.wf _ _ (by decide) (by decide) b n k x b
    (knn (P b) n k) (ref_pair_fst x1 b n k) (ref_pair_snd x1 P hP b n k)).trans (hP b _ x)

end

end Cert.Proof

end
-- ==== Proof.RefOffset.lean ====
/- The reference's offset network: the rows of both groups, the layer normalisation, the activation and the offsets. -/
module

public import proofs.«01_k».proof.Proof.RefNear

@[expose] public section

set_option maxRecDepth 16384

noncomputable section

namespace Cert.Proof

open Idealize.ShloMosaic Idealize.ShloMosaic.TcCoe Cert.ReferenceIdeal Cert.ReferenceIdeal.Gen Cert.ReferenceIdeal.Read

/-- The row of group `g` of batch `b`. -/
def grp (b : Fin 8) (g : Fin 2) : Fin 16 := ⟨b * 2 + g, by omega⟩
/-- The batch of a group. -/
theorem grp_div (b : Fin 8) (g : Fin 2) (h : (grp b g).val / 2 < 8) : (⟨(grp b g).val / 2, h⟩ : Fin 8) = b :=
  Fin.ext (by show (b.val * 2 + g.val) / 2 = b.val; omega)
/-- The column of a lane of a group. -/
theorem grp_mod (b : Fin 8) (g : Fin 2) (e : Fin 192) (h : (grp b g).val % 2 * 192 + e.val < 384) :
    (⟨(grp b g).val % 2 * 192 + e.val, h⟩ : Fin 384) = col g e :=
  Fin.ext (by show (b.val * 2 + g.val) % 2 * 192 + e.val = 192 * g.val + e.val; omega)

/-- The literal one. -/
theorem ofBits_one : Ideal.ofBits .f32 0x3F800000#32 = 1 := by
  simp [Ideal.ofBits, Ideal.ieee, -EReal.coe_mul]; try norm_num

section
variable (x0 : (⟨S8x512x384, .f32⟩ : BufTy).Contents (Elt Ideal)) (x1 : (⟨S8x512x3, .f32⟩ : BufTy).Contents (Elt Ideal))
  (x2 x5 x6 : (⟨S384x384, .f32⟩ : BufTy).Contents (Elt Ideal)) (x7 x8 x9 : (⟨S384, .f32⟩ : BufTy).Contents (Elt Ideal))
  (x10 : (⟨S3x384, .f32⟩ : BufTy).Contents (Elt Ideal))
  (X : Fin 8 → Fin 512 → Fin 384 → EReal) (P : Fin 8 → Fin 512 → Fin 3 → ℝ) (Wq Wo Wa : Fin 384 → Fin 384 → EReal)
  (b1 γ β : Fin 384 → EReal) (Wb : Fin 3 → Fin 384 → EReal)
  (hX : ∀ b n e, x0 (ix3 b n e) = X b n e) (hP : ∀ b n x, x1 (ix3 b n x) = P b n x)
  (hq : ∀ d e, x2 (ix2 d e) = Wq d e) (ho : ∀ d e, x5 (ix2 d e) = Wo d e) (h1 : ∀ d e, x6 (ix2 d e) = Wa d e)
  (hb1 : ∀ d, x7 (ix1 d) = b1 d) (hγ : ∀ d, x8 (ix1 d) = γ d) (hβ : ∀ d, x9 (ix1 d) = β d)
  (h2 : ∀ x d, x10 (ix2 x d) = Wb x d)

include hX hP hq ho h1 hb1 in
/-- The hidden row before the normalisation. -/
theorem ref_hidden (b : Fin 8) (g : Fin 2) (n : Fin 512) (k : Fin 10) (d : Fin 384) :
    val_main_v48 (F := Ideal) x0 x1 x2 x5 x6 x7 (ix4 (grp b g) n k d)
      = (∑ e, beside (fun e => proj X Wo b (knn (P b) n k) (col g e)) (fun e => proj X Wq b n (col g e)) e * Wa d e) + b1 d := by
  have hno := ref_near_o x0 x1 x5 X P Wo hX hP ho
  have hnq := ref_proj_q x0 x2 X Wq hX hq
  pointwise [val_main_v48, val_main_v47, val_main_v46, val_main_v45, val_main_v44, val_main_v43, val_main_v42, val_main_v41,
    val_main_v40, val_main_v39, val_main_v38, val_main_v37, val_main_v36, val_main_v35, hno, hnq, h1, hb1]
  rw [beside_sum _ _ (fun e => Wa d e)]
  simp only [grp_div, grp_mod]

section
variable (b : Fin 8) (g : Fin 2) (n : Fin 512) (k : Fin 10) (H : Fin 384 → EReal)
  (hH : ∀ d, val_main_v48 (F := Ideal) x0 x1 x2 x5 x6 x7 (ix4 (grp b g) n k d) = H d)
include hH

/-- The mean of a hidden row. -/
theorem ref_mean : val_main_v52 (F := Ideal) x0 x1 x2 x5 x6 x7 (ix4 (grp b g) n k 0) = mean H := by
  pointwise [val_main_v52, val_main_v51, val_main_v50, val_main_v49, val_main_cst_5, val_main_cst_6, hH]
  rfl

/-- The variance of a hidden row. -/
theorem ref_var : val_main_v53 (F := Ideal) x0 x1 x2 x5 x6 x7 (ix4 (grp b g) n k 0)
    = mean (fun e => centred H e * centred H e) := by
  pointwise [val_main_v53, val_main_call0_v13, val_main_call0_v12, val_main_call0_v11, val_main_call0_v10, val_main_call0_v9,
    val_main_call0_v8, val_main_call0_v7, val_main_call0_v6, val_main_call0_v5, val_main_call0_v4, val_main_call0_v3,
    val_main_call0_v2, val_main_call0_v1, val_main_call0_v0, val_main_call0_cst, val_main_call0_cst_0, val_main_call0_cst_1,
    val_main_call0_cst_2, val_main_call0_cst_3, val_main_c_7, hH]
  have h0 : FloatOps.sitofp (F := Ideal) FTy.f32 0#32 = (0 : EReal) := by
    show (((0#32 : BitVec 32).toInt : ℝ) : EReal) = 0
    simp
  rw [h0, sub_zero, if_pos]
  · rfl
  · simp [Ideal.ofBits, Ideal.ieee, -EReal.coe_mul]; try norm_num

include hγ hβ in
/-- The normalised hidden row. -/
theorem ref_norm (d : Fin 384) :
    val_main_v66 (F := Ideal) x0 x1 x2 x5 x6 x7 x8 x9 (ix4 (grp b g) n k d) = norm H γ β d := by
  have hm := ref_mean x0 x1 x2 x5 x6 x7 b g n k H hH
  have hv := ref_var x0 x1 x2 x5 x6 x7 b g n k H hH
  pointwise [val_main_v66, val_main_v65, val_main_v64, val_main_v63, val_main_v62, val_main_v61, val_main_v60, val_main_v59,
    val_main_v58, val_main_v57, val_main_v56, val_main_v55, val_main_v54, val_main_cst_8, hm, hv, hγ, hβ, hH]
  rfl

include hγ hβ h2 in
/-- The offsets of a hidden row. -/
theorem ref_offset (x : Fin 3) :
    val_main_v76 (F := Ideal) x0 x1 x2 x5 x6 x7 x8 x9 x10 (ix4 (grp b g) n k x)
      = Ideal.tanh (∑ d, gelu (norm H γ β d) * Wb x d) := by
  have hn := ref_norm x0 x1 x2 x5 x6 x7 x8 x9 γ β hγ hβ b g n k H hH
  pointwise [val_main_v76, val_main_v75, val_main_v74, val_main_v73, val_main_v72, val_main_v71,
    val_main_v70, val_main_v69, val_main_v68, val_main_v67, val_main_cst_9, val_main_cst_10, hn, h2]
  unfold gelu Ideal.erfc
  simp [Ideal.ofBits_zero_f32, ofBits_one]

end
end

end Cert.Proof

end
-- ==== Proof.RefInterp.lean ====
/- The reference's interpolation: the sampled positions, their distances to the points, the three nearest points, and the
   features there weighted by inverse distance. -/
module

public import proofs.«01_k».proof.Proof.RefOffset

@[expose] public section

set_option maxRecDepth 16384

noncomputable section

namespace Cert.Proof

open Idealize.ShloMosaic Idealize.ShloMosaic.TcCoe Cert.ReferenceIdeal Cert.ReferenceIdeal.Gen Cert.ReferenceIdeal.Read

/-- The row of point `n`'s `k`-th sampled position. -/
def posRow (n : Fin 512) (k : Fin 10) : Fin 5120 := ⟨n * 10 + k, by omega⟩
/-- The point of a row of neighbours. -/
theorem row_div (n : Fin 512) (k : Fin 10) (h : (posRow n k).val / 10 < 512) : (⟨(posRow n k).val / 10, h⟩ : Fin 512) = n :=
  Fin.ext (by show (n.val * 10 + k.val) / 10 = n.val; omega)
/-- The neighbour of a row of neighbours. -/
theorem row_mod (n : Fin 512) (k : Fin 10) (h : (posRow n k).val % 10 < 10) : (⟨(posRow n k).val % 10, h⟩ : Fin 10) = k :=
  Fin.ext (by show (n.val * 10 + k.val) % 10 = k.val; omega)

section
variable (x0 : (⟨S8x512x384, .f32⟩ : BufTy).Contents (Elt Ideal)) (x1 : (⟨S8x512x3, .f32⟩ : BufTy).Contents (Elt Ideal))
  (x2 x5 x6 : (⟨S384x384, .f32⟩ : BufTy).Contents (Elt Ideal)) (x7 x8 x9 : (⟨S384, .f32⟩ : BufTy).Contents (Elt Ideal))
  (x10 : (⟨S3x384, .f32⟩ : BufTy).Contents (Elt Ideal))
  (X : Fin 8 → Fin 512 → Fin 384 → EReal) (P : Fin 8 → Fin 512 → Fin 3 → ℝ)
  (hX : ∀ b n e, x0 (ix3 b n e) = X b n e) (hP : ∀ b n x, x1 (ix3 b n x) = P b n x)

section
variable (b : Fin 8) (g : Fin 2) (n : Fin 512) (k : Fin 10) (S : Fin 3 → EReal)
  (hS : ∀ x, val_main_v95 (F := Ideal) x0 x1 x2 x5 x6 x7 x8 x9 x10 (ix4 (grp b g) n k x) = S x)

include hP hS in
/-- The distances of a sampled position. -/
theorem ref_dist2 (m : Fin 512) :
    val_main_v115 (F := Ideal) x0 x1 x2 x5 x6 x7 x8 x9 x10 (ix3 (grp b g) (posRow n k) m) = dist2 S (fun x => (P b m x : EReal)) := by
  have h96 : ∀ x, val_main_v96 (F := Ideal) x0 x1 x2 x5 x6 x7 x8 x9 x10 (ix3 (grp b g) (posRow n k) x) = S x := by
    intro x
    pointwise [val_main_v96]
    simp only [row_div, row_mod, hS]
  pointwise [val_main_v115, val_main_v114, val_main_v113, val_main_v112, val_main_v111, val_main_v110, val_main_v109,
    val_main_v108, val_main_v107, val_main_v106, val_main_v105, val_main_v104, val_main_v103, val_main_v99, val_main_v98,
    val_main_v97, val_main_cst_15, val_main_cst_16, val_main_cst_17, h96, hP]
  simp only [grp_div]
  unfold dist2
  simp [Fin.sum_univ_three]

variable (E : Fin 512 → EReal)
  (hE : ∀ m, val_main_v115 (F := Ideal) x0 x1 x2 x5 x6 x7 x8 x9 x10 (ix3 (grp b g) (posRow n k) m) = E m) (hfin : ∀ m, E m < ⊤)
include hE hfin

/-- The three least distances. -/
theorem ref_least (j : Fin 3) :
    val_main_v117 (F := Ideal) x0 x1 x2 x5 x6 x7 x8 x9 x10 (ix3 (grp b g) (posRow n k) j) = E (nearest E j) :=
  (congrArg (fun y : EReal => -y) (topK_values _ _ _ _ E (by decide) hfin
    (fun m => congrArg (fun y : EReal => -y) (hE m)) j)).trans (neg_neg _)

/-- The positions of the three nearest points. -/
theorem ref_least_at (j : Fin 3) :
    val_main_indices_19 (F := Ideal) x0 x1 x2 x5 x6 x7 x8 x9 x10 (ix3 (grp b g) (posRow n k) j) = BitVec.ofNat 32 (nearest E j) :=
  topK_indices _ _ _ _ E (by decide) hfin (fun m => congrArg (fun y : EReal => -y) (hE m)) j

/-- The weights of the three nearest points. -/
theorem ref_weight (j : Fin 3) :
    val_main_v125 (F := Ideal) x0 x1 x2 x5 x6 x7 x8 x9 x10 (ix3 (grp b g) (posRow n k) j)
      = Ideal.div (recip (E (nearest E j))) (∑ j : Fin 3, recip (E (nearest E j))) := by
  have h := ref_least x0 x1 x2 x5 x6 x7 x8 x9 x10 b g n k E hE hfin
  pointwise [val_main_v125, val_main_v124, val_main_v123, val_main_v122, val_main_v121, val_main_v120, val_main_v119,
    val_main_v118, val_main_cst_20, val_main_cst_21, val_main_cst_22, h]
  simp [recip, ofBits_one]

include hX in
/-- The features of the three nearest points. -/
theorem ref_taken (j : Fin 3) (c : Fin 192) :
    val_main_v142 (F := Ideal) x0 x1 x2 x5 x6 x7 x8 x9 x10 (ix4 (grp b g) (posRow n k) j c) = X b (nearest E j) (col g c) := by
  have h := ref_least_at x0 x1 x2 x5 x6 x7 x8 x9 x10 b g n k E hE hfin
  have h0 : val_main_v141 (F := Ideal) x0 x1 x2 x5 x6 x7 x8 x9 x10 (ix4 (grp b g) (posRow n k) j 0) = BitVec.ofNat 32 (grp b g) := by
    pointwise [val_main_v141, val_main_v140, val_main_v139, val_main_v138, val_main_v132, val_main_v131, val_main_v130,
      val_main_v129, val_main_v128, val_main_v127, val_main_v126, val_main_c_23, val_main_c_24]
    exact keep_word (by omega) _
  have h1 : val_main_v141 (F := Ideal) x0 x1 x2 x5 x6 x7 x8 x9 x10 (ix4 (grp b g) (posRow n k) j 1)
      = BitVec.ofNat 32 (nearest E j) := by
    pointwise [val_main_v141, val_main_v140, val_main_v139, val_main_v137, val_main_v136, val_main_v135, val_main_v134,
      val_main_v133, val_main_c_25, val_main_c_26, h]
    exact keep_word (nearest E j).isLt _
  refine (gather_pair gather_S16x512x192_S16x5120x3x2_S16x5120x3x192_3_01_n_n_01_3_11192.wf _ _ (by decide) (by decide)
    (grp b g) (posRow n k) j c (grp b g) (nearest E j) h0 h1).trans ?_
  pointwise [val_main_v102, val_main_v101, val_main_v100, hX]
  simp only [grp_div, grp_mod]

include hX in
/-- The interpolated features. -/
theorem ref_interp (c : Fin 192) :
    val_main_v146 (F := Ideal) x0 x1 x2 x5 x6 x7 x8 x9 x10 (ix3 (grp b g) (posRow n k) c)
      = interp E fun m => X b m (col g c) := by
  have hw := ref_weight x0 x1 x2 x5 x6 x7 x8 x9 x10 b g n k E hE hfin
  have ht := ref_taken x0 x1 x2 x5 x6 x7 x8 x9 x10 X hX b g n k E hE hfin
  pointwise [val_main_v146, val_main_v145, val_main_v144, val_main_v143, val_main_cst_27, hw, ht]
  unfold interp
  simp only [mul_comm]

end

variable (Wq Wo Wa : Fin 384 → Fin 384 → EReal) (b1 γ β : Fin 384 → EReal) (Wb : Fin 3 → Fin 384 → EReal)
  (hq : ∀ d e, x2 (ix2 d e) = Wq d e) (ho : ∀ d e, x5 (ix2 d e) = Wo d e) (h1 : ∀ d e, x6 (ix2 d e) = Wa d e)
  (hb1 : ∀ d, x7 (ix1 d) = b1 d) (hγ : ∀ d, x8 (ix1 d) = γ d) (hβ : ∀ d, x9 (ix1 d) = β d)
  (h2 : ∀ x d, x10 (ix2 x d) = Wb x d)
include hX hP hq ho h1 hb1 hγ hβ h2

/-- The sampled positions. -/
theorem ref_sample (b : Fin 8) (g : Fin 2) (n : Fin 512) (k : Fin 10) (x : Fin 3) :
    val_main_v95 (F := Ideal) x0 x1 x2 x5 x6 x7 x8 x9 x10 (ix4 (grp b g) n k x)
      = sample (fun x => (P b (knn (P b) n k) x : EReal))
        (beside (fun e => proj X Wo b (knn (P b) n k) (col g e)) (fun e => proj X Wq b n (col g e)))
        (fun e d => Wa d e) b1 γ β (fun d x => Wb x d) x := by
  have hp := ref_near_p x1 P hP
  have hoff := ref_offset x0 x1 x2 x5 x6 x7 x8 x9 x10 γ β Wb hγ hβ h2 b g n k _
    (ref_hidden x0 x1 x2 x5 x6 x7 X P Wq Wo Wa b1 hX hP hq ho h1 hb1 b g n k)
  pointwise [val_main_v95, val_main_v94, val_main_v93, val_main_v92, hp, hoff]
  simp only [grp_div]
  rfl

/-- The interpolated features of every point's sampled positions. -/
theorem ref_feature (b : Fin 8) (n : Fin 512) (k : Fin 10) (e : Fin 384) :
    val_main_v149 (F := Ideal) x0 x1 x2 x5 x6 x7 x8 x9 x10 (ix4 b n k e)
      = feature X P Wq Wo Wa b1 γ β Wb b (half e) n k (lane e) := by
  have hs := ref_sample x0 x1 x2 x5 x6 x7 x8 x9 x10 X P hX hP Wq Wo Wa b1 γ β Wb hq ho h1 hb1 hγ hβ h2 b (half e) n k
  have hd := ref_dist2 x0 x1 x2 x5 x6 x7 x8 x9 x10 P hP b (half e) n k _ hs
  have hfin := fun m => (dist2_real (P b (knn (P b) n k)) (P b m) (fun x => ∑ d, gelu (norm (fun d => (∑ i,
    beside (fun e' => proj X Wo b (knn (P b) n k) (col (half e) e')) (fun e' => proj X Wq b n (col (half e) e')) i * Wa d i)
      + b1 d) γ β d) * Wb x d))
  have h := ref_interp x0 x1 x2 x5 x6 x7 x8 x9 x10 X hX b (half e) n k _ hd
    (fun m => by obtain ⟨d, -, h⟩ := hfin m; exact h.trans_lt (EReal.coe_lt_top d)) (lane e)
  pointwise [val_main_v149, val_main_v148, val_main_v147]
  exact h

end

end Cert.Proof

end
-- ==== Proof.RefMax.lean ====
/- The host's maximum over one axis, read at an index, for any sizes. -/
module

public import Idealize.ShloMosaic.Lib.Pointwise
public import Idealize.ShloMosaic.Lib.ValueIdxCore

@[expose] public section

noncomputable section

namespace Cert.Proof

open Idealize.ShloMosaic

/-- The maximum over the last of three axes. -/
theorem max_last {A B C : ℕ} {u : Shape} (x : FVec Ideal ⟨3, ![A, B, C]⟩ .f32) (init : u.Idx → Ideal .f32)
    (h : (⟨3, ![A, B, C]⟩ : Shape).ReducesTo [2] ⟨2, ![A, B]⟩) (hu : 0 < u.numel) (a : Fin A) (b : Fin B) :
    Host.reduce (FloatOps.maximumf (F := Ideal) (φ := .f32)) x init h hu (ix2 a b)
      = Finset.univ.fold max (init (Shape.Idx.first hu)) fun k => x (ix3 a b k) := by
  pointwise

/-- The maximum over the third of four axes. -/
theorem max_third {A B C D : ℕ} {u : Shape} (x : FVec Ideal ⟨4, ![A, B, C, D]⟩ .f32) (init : u.Idx → Ideal .f32)
    (h : (⟨4, ![A, B, C, D]⟩ : Shape).ReducesTo [2] ⟨3, ![A, B, D]⟩) (hu : 0 < u.numel) (a : Fin A) (b : Fin B) (d : Fin D) :
    Host.reduce (FloatOps.maximumf (F := Ideal) (φ := .f32)) x init h hu (ix3 a b d)
      = Finset.univ.fold max (init (Shape.Idx.first hu)) fun k => x (ix4 a b k d) := by
  pointwise

end Cert.Proof

end
-- ==== Proof.RefHeads.lean ====
/- The reference's attention: six heads over the ten sampled positions of every point, the greatest over the ten queries,
   and the last product and bias. -/
module

public import proofs.«01_k».proof.Proof.RefInterp
public import proofs.«01_k».proof.Proof.RefMax

@[expose] public section

set_option maxRecDepth 16384

noncomputable section

namespace Cert.Proof

open Idealize.ShloMosaic Idealize.ShloMosaic.TcCoe Cert.ReferenceIdeal Cert.ReferenceIdeal.Gen Cert.ReferenceIdeal.Read

/-- The row of head `h` of point `n` of batch `b`. -/
def headRow (b : Fin 8) (h : Fin 6) (n : Fin 512) : Fin 24576 := ⟨(b * 6 + h) * 512 + n, by omega⟩

/-- The batch of a row of the reference's heads. -/
theorem headRow_div (b : Fin 8) (h : Fin 6) (n : Fin 512) (l : (headRow b h n).val / 3072 < 8) :
    (⟨(headRow b h n).val / 3072, l⟩ : Fin 8) = b :=
  Fin.ext (by show ((b.val * 6 + h.val) * 512 + n.val) / 3072 = b.val; omega)
/-- The point of a row of the reference's heads. -/
theorem headRow_mod (b : Fin 8) (h : Fin 6) (n : Fin 512) (l : (headRow b h n).val % 512 < 512) :
    (⟨(headRow b h n).val % 512, l⟩ : Fin 512) = n :=
  Fin.ext (by show ((b.val * 6 + h.val) * 512 + n.val) % 512 = n.val; omega)
/-- The column of a head's lane. -/
theorem headRow_col (b : Fin 8) (h : Fin 6) (n : Fin 512) (c : Fin 64) (l : (headRow b h n).val / 512 % 6 * 64 + c.val < 384) :
    (⟨(headRow b h n).val / 512 % 6 * 64 + c.val, l⟩ : Fin 384) = hcol h c :=
  Fin.ext (by show ((b.val * 6 + h.val) * 512 + n.val) / 512 % 6 * 64 + c.val = 64 * h.val + c.val; omega)
/-- The row of the head that a column lies in. -/
theorem headRow_flat (b : Fin 8) (n : Fin 512) (e : Fin 384) (l : b.val * 3072 + e.val / 64 * 512 + n.val < 24576) :
    (⟨b.val * 3072 + e.val / 64 * 512 + n.val, l⟩ : Fin 24576) = headRow b (hd e) n :=
  Fin.ext (by show b.val * 3072 + e.val / 64 * 512 + n.val = (b.val * 6 + e.val / 64) * 512 + n.val; omega)

/-- The literal of least value. -/
theorem ofBits_least : Ideal.ofBits .f32 0xFF800000#32 = ⊥ := by
  simp [Ideal.ofBits, Ideal.ieee]

section
variable (x0 : (⟨S8x512x384, .f32⟩ : BufTy).Contents (Elt Ideal)) (x1 : (⟨S8x512x3, .f32⟩ : BufTy).Contents (Elt Ideal))
  (x2 x3 x4 x5 x6 : (⟨S384x384, .f32⟩ : BufTy).Contents (Elt Ideal)) (x7 x8 x9 : (⟨S384, .f32⟩ : BufTy).Contents (Elt Ideal))
  (x10 : (⟨S3x384, .f32⟩ : BufTy).Contents (Elt Ideal)) (x11 : (⟨S384x384, .f32⟩ : BufTy).Contents (Elt Ideal))
  (x12 : (⟨S384, .f32⟩ : BufTy).Contents (Elt Ideal))
  (q f : Fin 8 → Fin 512 → Fin 10 → Fin 384 → EReal) (Wk Wv Wp : Fin 384 → Fin 384 → EReal) (bp : Fin 384 → EReal)
  (hq : ∀ b n k e, val_main_v164 (F := Ideal) x0 x1 x2 (ix4 b n k e) = q b n k e)
  (hf : ∀ b n k e, val_main_v149 (F := Ideal) x0 x1 x2 x5 x6 x7 x8 x9 x10 (ix4 b n k e) = f b n k e)
  (hk : ∀ d e, x3 (ix2 d e) = Wk d e) (hv : ∀ d e, x4 (ix2 d e) = Wv d e) (hp : ∀ d e, x11 (ix2 d e) = Wp d e)
  (hbp : ∀ d, x12 (ix1 d) = bp d)

include hq in
/-- The queries of a head. -/
theorem ref_head_q (b : Fin 8) (h : Fin 6) (n : Fin 512) (k : Fin 10) (c : Fin 64) :
    val_main_v167 (F := Ideal) x0 x1 x2 (ix3 (headRow b h n) k c) = q b n k (hcol h c) := by
  pointwise [val_main_v167, val_main_v166, val_main_v165, hq]
  simp only [headRow_div, headRow_mod, headRow_col]

include hf hk in
/-- The keys of a head. -/
theorem ref_head_k (b : Fin 8) (h : Fin 6) (n : Fin 512) (k : Fin 10) (c : Fin 64) :
    val_main_v172 (F := Ideal) x0 x1 x2 x3 x5 x6 x7 x8 x9 x10 (ix3 (headRow b h n) k c)
      = ∑ e, f b n k e * Wk (hcol h c) e := by
  pointwise [val_main_v172, val_main_v171, val_main_v170, val_main_v169, val_main_v168, hf, hk]
  simp only [headRow_div, headRow_mod, headRow_col]

include hf hv in
/-- The values of a head. -/
theorem ref_head_v (b : Fin 8) (h : Fin 6) (n : Fin 512) (k : Fin 10) (c : Fin 64) :
    val_main_v177 (F := Ideal) x0 x1 x2 x4 x5 x6 x7 x8 x9 x10 (ix3 (headRow b h n) k c)
      = ∑ e, f b n k e * Wv (hcol h c) e := by
  pointwise [val_main_v177, val_main_v176, val_main_v175, val_main_v174, val_main_v173, hf, hv]
  simp only [headRow_div, headRow_mod, headRow_col]

section
variable (R : Fin 24576) (Q K V : Fin 10 → Fin 64 → EReal)
  (hQ : ∀ k c, val_main_v167 (F := Ideal) x0 x1 x2 (ix3 R k c) = Q k c)
  (hK : ∀ k c, val_main_v172 (F := Ideal) x0 x1 x2 x3 x5 x6 x7 x8 x9 x10 (ix3 R k c) = K k c)
  (hV : ∀ k c, val_main_v177 (F := Ideal) x0 x1 x2 x4 x5 x6 x7 x8 x9 x10 (ix3 R k c) = V k c)
include hQ hK

/-- The logits of a head. -/
theorem ref_logits (i j : Fin 10) :
    val_main_v180 (F := Ideal) x0 x1 x2 x3 x5 x6 x7 x8 x9 x10 (ix3 R i j)
      = (∑ c, Q i c * K j c) * Ideal.ofBits .f32 0x3E000000#32 := by
  pointwise [val_main_v180, val_main_v179, val_main_v178, val_main_cst_32, hQ, hK]

/-- The greatest logit of a query. -/
theorem ref_greatest (i : Fin 10) :
    val_main_v183 (F := Ideal) x0 x1 x2 x3 x5 x6 x7 x8 x9 x10 (ix2 R i)
      = greatest fun j => (∑ c, Q i c * K j c) * Ideal.ofBits .f32 0x3E000000#32 := by
  have hl := ref_logits x0 x1 x2 x3 x5 x6 x7 x8 x9 x10 R Q K hQ hK
  have hm : val_main_v181 (F := Ideal) x0 x1 x2 x3 x5 x6 x7 x8 x9 x10 (ix2 R i)
      = greatest fun j => (∑ c, Q i c * K j c) * Ideal.ofBits .f32 0x3E000000#32 := by
    unfold val_main_v181
    refine (max_last _ _ _ _ R i).trans ?_
    simp only [hl]
    rfl
  have h35 : val_main_v182 (F := Ideal) (ix2 R i) = ⊥ := by
    rw [val_main_v182_apply, val_main_cst_34_apply]
    exact ofBits_least
  rw [val_main_v183_apply, hm, h35]
  exact max_eq_right bot_le

/-- The weights of a head. -/
theorem ref_soft (i j : Fin 10) :
    val_main_v191 (F := Ideal) x0 x1 x2 x3 x5 x6 x7 x8 x9 x10 (ix3 R i j)
      = soft (fun j => (∑ c, Q i c * K j c) * Ideal.ofBits .f32 0x3E000000#32) j := by
  have hl := ref_logits x0 x1 x2 x3 x5 x6 x7 x8 x9 x10 R Q K hQ hK
  have hg := ref_greatest x0 x1 x2 x3 x5 x6 x7 x8 x9 x10 R Q K hQ hK
  pointwise [val_main_v191, val_main_v190, val_main_v189, val_main_v188, val_main_v187, val_main_v186, val_main_v185,
    val_main_v184, val_main_cst_35, hl, hg]
  rfl

include hV in
/-- A head's rows. -/
theorem ref_head (i : Fin 10) (d : Fin 64) :
    val_main_v192 (F := Ideal) x0 x1 x2 x3 x4 x5 x6 x7 x8 x9 x10 (ix3 R i d)
      = ∑ j, soft (fun j => (∑ c, Q i c * K j c) * Ideal.ofBits .f32 0x3E000000#32) j * V j d := by
  have hs := ref_soft x0 x1 x2 x3 x5 x6 x7 x8 x9 x10 R Q K hQ hK
  pointwise [val_main_v192, hs, hV]

end

include hq hf hk hv in
/-- The greatest over the ten queries of a head's rows. -/
theorem ref_attn (b : Fin 8) (n : Fin 512) (e : Fin 384) :
    val_main_v196 (F := Ideal) x0 x1 x2 x3 x4 x5 x6 x7 x8 x9 x10 (ix3 b n e)
      = attn (fun k e => q b n k e) (fun k d => ∑ e, f b n k e * Wk d e) (fun k d => ∑ e, f b n k e * Wv d e) (hd e) (hc e) := by
  have h := ref_head x0 x1 x2 x3 x4 x5 x6 x7 x8 x9 x10 (headRow b (hd e) n) _ _ _
    (ref_head_q x0 x1 x2 q hq b (hd e) n) (ref_head_k x0 x1 x2 x3 x5 x6 x7 x8 x9 x10 f Wk hf hk b (hd e) n)
    (ref_head_v x0 x1 x2 x4 x5 x6 x7 x8 x9 x10 f Wv hf hv b (hd e) n)
  have h' : ∀ i, val_main_v195 (F := Ideal) x0 x1 x2 x3 x4 x5 x6 x7 x8 x9 x10 (ix4 b n i e)
      = val_main_v192 (F := Ideal) x0 x1 x2 x3 x4 x5 x6 x7 x8 x9 x10 (ix3 (headRow b (hd e) n) i (hc e)) := fun i => by
    pointwise [val_main_v195, val_main_v194, val_main_v193]
    rw [headRow_flat]
    rfl
  unfold val_main_v196
  refine (max_third _ _ _ _ b n e).trans ?_
  simp only [h', h]
  rfl

include hp hbp in
/-- The last product and bias, of any rows. -/
theorem ref_last (b : Fin 8) (n : Fin 512) (A : Fin 384 → EReal)
    (hA : ∀ e, val_main_v196 (F := Ideal) x0 x1 x2 x3 x4 x5 x6 x7 x8 x9 x10 (ix3 b n e) = A e) (d : Fin 384) :
    val_main_v201 (F := Ideal) x0 x1 x2 x3 x4 x5 x6 x7 x8 x9 x10 x11 x12 (ix3 b n d) = (∑ e, A e * Wp d e) + bp d := by
  have h200 : val_main_v200 (F := Ideal) x12 (ix3 b n d) = bp d := by
    pointwise [val_main_v200, val_main_v199, hbp]
  have h197 : ∀ e, val_main_v197 (F := Ideal) x11 (ix2 e d) = Wp d e := fun e => by
    pointwise [val_main_v197, hp]
  rw [val_main_v201_apply, h200, val_main_v198_apply]
  refine congrArg (fun y : EReal => y + bp d) (Finset.sum_congr rfl fun e _ => ?_)
  rw [← hA e, ← h197 e]
  refine congr (congrArg _ (congrArg _ (funext fun a => ?_))) (congrArg _ (funext fun a => ?_))
  · match a with
    | ⟨0, _⟩ => rfl
    | ⟨1, _⟩ => rfl
    | ⟨2, _⟩ => rfl
  · match a with
    | ⟨0, _⟩ => rfl
    | ⟨1, _⟩ => rfl

include hq hf hk hv hp hbp in
/-- The last product and bias. -/
theorem ref_row (b : Fin 8) (n : Fin 512) (d : Fin 384) :
    val_main_v201 (F := Ideal) x0 x1 x2 x3 x4 x5 x6 x7 x8 x9 x10 x11 x12 (ix3 b n d)
      = attnRow (fun k e => q b n k e) (fun k d => ∑ e, f b n k e * Wk d e) (fun k d => ∑ e, f b n k e * Wv d e)
        (fun e d => Wp d e) bp d :=
  ref_last x0 x1 x2 x3 x4 x5 x6 x7 x8 x9 x10 x11 x12 Wp bp hp hbp b n _
    (ref_attn x0 x1 x2 x3 x4 x5 x6 x7 x8 x9 x10 q f Wk Wv hq hf hk hv b n) d

end

/-- The reference's result. -/
theorem reference_result
    (x0 : (⟨S8x512x384, .f32⟩ : BufTy).Contents (Elt Ideal)) (x1 : (⟨S8x512x3, .f32⟩ : BufTy).Contents (Elt Ideal))
    (x2 x3 x4 x5 x6 : (⟨S384x384, .f32⟩ : BufTy).Contents (Elt Ideal)) (x7 x8 x9 : (⟨S384, .f32⟩ : BufTy).Contents (Elt Ideal))
    (x10 : (⟨S3x384, .f32⟩ : BufTy).Contents (Elt Ideal)) (x11 : (⟨S384x384, .f32⟩ : BufTy).Contents (Elt Ideal))
    (x12 : (⟨S384, .f32⟩ : BufTy).Contents (Elt Ideal))
    (P : Fin 8 → Fin 512 → Fin 3 → ℝ) (hP : ∀ b n x, x1 (ix3 b n x) = P b n x) (b : Fin 8) (n : Fin 512) (d : Fin 384) :
    val_main_v201 (F := Ideal) x0 x1 x2 x3 x4 x5 x6 x7 x8 x9 x10 x11 x12 (ix3 b n d)
      = result (fun b n e => x0 (ix3 b n e)) P (fun d e => x2 (ix2 d e)) (fun d e => x3 (ix2 d e)) (fun d e => x4 (ix2 d e))
        (fun d e => x5 (ix2 d e)) (fun d e => x6 (ix2 d e)) (fun d => x7 (ix1 d)) (fun d => x8 (ix1 d)) (fun d => x9 (ix1 d))
        (fun x d => x10 (ix2 x d)) (fun d e => x11 (ix2 d e)) (fun d => x12 (ix1 d)) b n d :=
  ref_row x0 x1 x2 x3 x4 x5 x6 x7 x8 x9 x10 x11 x12 _ _ _ _ _ _
    (ref_near_q x0 x1 x2 _ P _ (fun _ _ _ => rfl) hP (fun _ _ => rfl))
    (ref_feature x0 x1 x2 x5 x6 x7 x8 x9 x10 _ P (fun _ _ _ => rfl) hP _ _ _ _ _ _ _ (fun _ _ => rfl) (fun _ _ => rfl)
      (fun _ _ => rfl) (fun _ => rfl) (fun _ => rfl) (fun _ => rfl) (fun _ _ => rfl))
    (fun _ _ => rfl) (fun _ _ => rfl) (fun _ _ => rfl) (fun _ => rfl) b n d

end Cert.Proof

end
-- ==== Proof.Equal.lean ====
/- The idealized kernel and the idealized reference end with equal results where the precondition holds. -/
module

public import proofs.«01_k».proof.Proof.Frames
public import proofs.«01_k».proof.Proof.Finite
public import proofs.«01_k».proof.Proof.KernelRun
public import proofs.«01_k».proof.Proof.KernelValue
public import proofs.«01_k».proof.Proof.RefHeads

@[expose] public section

set_option maxRecDepth 16384

noncomputable section

namespace Cert.Proof

open Idealize.ShloMosaic Idealize.ShloMosaic.TcCoe Idealize.SL.Sem

/-- A sum of products of reals is real, so it less itself is zero. -/
theorem proj_sub_self (X : Fin 8 → Fin 512 → Fin 384 → EReal) (A : Fin 384 → Fin 384 → EReal)
    (hX : ∀ b n e, ∃ r : ℝ, X b n e = r) (hA : ∀ d e, ∃ r : ℝ, A d e = r) (b : Fin 8) (n : Fin 512) (d : Fin 384) :
    proj X A b n d - proj X A b n d = 0 := by
  choose x hx using hX
  choose a ha using hA
  have h : proj X A b n d = ((∑ e, x b n e * a d e : ℝ) : EReal) := by
    unfold proj
    simp only [hx, ha, ← EReal.coe_mul]
    exact (map_sum (⟨⟨Real.toEReal, rfl⟩, EReal.coe_add⟩ : ℝ →+ EReal) (fun e => x b n e * a d e) Finset.univ).symm
  rw [h, ← EReal.coe_sub, sub_self, EReal.coe_zero]

/-- The two results, of the same arguments. -/
theorem results_equal
    (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (h0 : ∀ i, ∃ r : ℝ, m ((c.tc : Thread Cert.KernelIdeal.nD Cert.KernelIdeal.τ).loc Cert.KernelIdeal.main_arg0) i = (r : EReal))
    (h1 : ∀ i, ∃ r : ℝ, m ((c.tc : Thread Cert.KernelIdeal.nD Cert.KernelIdeal.τ).loc Cert.KernelIdeal.main_arg1) i = (r : EReal))
    (h5 : ∀ i, ∃ r : ℝ, m ((c.tc : Thread Cert.KernelIdeal.nD Cert.KernelIdeal.τ).loc Cert.KernelIdeal.main_arg5) i = (r : EReal)) :
    Cert.KernelIdeal.Gen.W8 m ρ c (Proc.devRef .tc Cert.KernelIdeal.main_v0)
      = Cert.ReferenceIdeal.Read.val_main_v201 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12)) := by
  have hP : ∃ P : Fin 8 → Fin 512 → Fin 3 → ℝ, ∀ b n x,
      m ((c.tc : Thread Cert.KernelIdeal.nD Cert.KernelIdeal.τ).loc Cert.KernelIdeal.main_arg1)
        (ix3 b n x : Cert.KernelIdeal.S8x512x3.Idx) = (P b n x : EReal) :=
    ⟨fun b n x => (h1 (ix3 b n x)).choose, fun b n x => (h1 (ix3 b n x)).choose_spec⟩
  obtain ⟨P, hP⟩ := hP
  refine funext fun (j : Cert.KernelIdeal.S8x512x384.Idx) => ?_
  obtain ⟨b, n, d, rfl⟩ : ∃ (b : Fin 8) (n : Fin 512) (d : Fin 384), j = ix3 b n d := ⟨_, _, _, eq_ix3 j⟩
  exact (kernel_result m ρ c _ P _ _ _ _ _ _ _ _ _ _ _ (fun _ _ _ => rfl) hP (fun _ _ => rfl) (fun _ _ => rfl)
    (fun _ _ => rfl) (fun _ _ => rfl) (fun _ _ => rfl) (fun _ => rfl) (fun _ => rfl) (fun _ => rfl) (fun _ _ => rfl)
    (fun _ _ => rfl) (fun _ => rfl)
    (proj_sub_self _ _ (fun b n e => h0 (ix3 b n e)) (fun d e => h5 (ix2 d e))) b n d).trans
    (reference_result _ _ _ _ _ _ _ _ _ _ _ _ _ P hP b n d).symm

/-- Where the precondition holds, the kernel and the reference run from the same arguments to the same result. -/
theorem algebraic [Cert.Pre_finite_inputs.Facts] :
    Cert.algebraic_KernelIdeal_ReferenceIdeal_pre_finite_inputs := by
  intro m g m' g' hpre hagree
  refine ⟨fun c => Cert.KernelIdeal.Gen.W8 m g c (Proc.devRef .tc Cert.KernelIdeal.main_v0), run_kernel m g,
    (θ_run Cert.ReferenceIdeal.defs _ _).mono (fun r h c => ⟨?_, (h c).2⟩)
      (Cert.ReferenceIdeal.Value.run (F := Ideal) m' g')⟩
  refine (h c).1.trans ((Cert.ReferenceIdeal.Read.val_main_v201_eq (StableHlo.launchContents m' c)).trans ?_)
  obtain ⟨h0, h1, h5⟩ := finite_args _ _ _ _ _ _ _ _ _ _ _ _ _ (hpre c)
  refine Eq.trans ?_ (results_equal m g c h0 h1 h5).symm
  obtain ⟨e0, e1, e2, e3, e4, e5, e6, e7, e8, e9, e10, e11, e12⟩ := hagree c
  rw [← e0, ← e1, ← e2, ← e3, ← e4, ← e5, ← e6, ← e7, ← e8, ← e9, ← e10, ← e11, ← e12]

end Cert.Proof

end
-- ==== Proof.lean ====
module

public import proofs.«01_k».proof.Defs
public import proofs.«01_k».proof.Proof.Frames
public import proofs.«01_k».proof.Proof.Equal

@[expose] public section

noncomputable section

namespace Cert.Proof

/-- The three programs run and leave their arguments unchanged, the idealization rewrites nothing, and over the
    extended reals the kernel's result is the reference's wherever the features, the positions and the offset weights
    are finite. -/
theorem claim : Cert.Claim :=
  ⟨Cert.Kernel.Gen.facts, Cert.KernelIdeal.Gen.facts, Cert.ReferenceIdeal.Gen.facts, pre_facts,
    frame_kernel, frame_kernelIdeal, fun m ρ _ => frame_kernelIdeal m ρ trivial,
    frame_referenceIdeal, fun m ρ _ => frame_referenceIdeal m ρ trivial, trivial,
    @algebraic pre_facts⟩

end Cert.Proof

end
